-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x6144 : Shape := ⟨3, ![1, 256, 6144]⟩
abbrev S16384x24x32 : Shape := ⟨3, ![16384, 24, 32]⟩
abbrev S16384x24x64 : Shape := ⟨3, ![16384, 24, 64]⟩
abbrev S16384x24x12 : Shape := ⟨3, ![16384, 24, 12]⟩
abbrev S16384x24 : Shape := ⟨2, ![16384, 24]⟩
abbrev S256x6144 : Shape := ⟨2, ![256, 6144]⟩
abbrev S24x32x16384 : Shape := ⟨3, ![24, 32, 16384]⟩
abbrev S24x64x16384 : Shape := ⟨3, ![24, 64, 16384]⟩
abbrev S12x24x16384 : Shape := ⟨3, ![12, 24, 16384]⟩
abbrev S24x16384 : Shape := ⟨2, ![24, 16384]⟩
abbrev S256x16384 : Shape := ⟨2, ![256, 16384]⟩
abbrev S64x256 : Shape := ⟨2, ![64, 256]⟩
abbrev S24x32x512 : Shape := ⟨3, ![24, 32, 512]⟩
abbrev S24x64x512 : Shape := ⟨3, ![24, 64, 512]⟩
abbrev S12x24x512 : Shape := ⟨3, ![12, 24, 512]⟩
abbrev S24x512 : Shape := ⟨2, ![24, 512]⟩
abbrev S256x512 : Shape := ⟨2, ![256, 512]⟩
abbrev S6144x512 : Shape := ⟨2, ![6144, 512]⟩
abbrev S16x24x512 : Shape := ⟨3, ![16, 24, 512]⟩
abbrev S256x128 : Shape := ⟨2, ![256, 128]⟩
abbrev S1x24x512 : Shape := ⟨3, ![1, 24, 512]⟩
abbrev S1x32x512 : Shape := ⟨3, ![1, 32, 512]⟩
abbrev S32x512 : Shape := ⟨2, ![32, 512]⟩
abbrev S8x512 : Shape := ⟨2, ![8, 512]⟩
abbrev S1x1x512 : Shape := ⟨3, ![1, 1, 512]⟩
abbrev S1x512 : Shape := ⟨2, ![1, 512]⟩
abbrev S16x512 : Shape := ⟨2, ![16, 512]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x256x16384 : Shape := ⟨3, ![1, 256, 16384]⟩
abbrev S256x64 : Shape := ⟨2, ![256, 64]⟩
abbrev S1x256x64 : Shape := ⟨3, ![1, 256, 64]⟩

abbrev nBuf : Space → Nat
  | .hbm => 17
  | .vmem => 17
  | .smem => 0
  | _ => 0

abbrev bufTy : (tb : Table) → Fin (tcTables nBuf tb) → BufTy
  | .hbm, ⟨0, _⟩ => ⟨S1x256x6144, .bf16⟩
  | .hbm, ⟨1, _⟩ => ⟨S16384x24x32, .i8⟩
  | .hbm, ⟨2, _⟩ => ⟨S16384x24x64, .i8⟩
  | .hbm, ⟨3, _⟩ => ⟨S16384x24x12, .i8⟩
  | .hbm, ⟨4, _⟩ => ⟨S16384x24, .i16⟩
  | .hbm, ⟨5, _⟩ => ⟨S256x6144, .bf16⟩
  | .hbm, ⟨6, _⟩ => ⟨S24x32x16384, .i8⟩
  | .hbm, ⟨7, _⟩ => ⟨S24x64x16384, .i8⟩
  | .hbm, ⟨8, _⟩ => ⟨S12x24x16384, .i8⟩
  | .hbm, ⟨9, _⟩ => ⟨S24x16384, .i16⟩
  | .hbm, ⟨10, _⟩ => ⟨S256x16384, .bf16⟩
  | .hbm, ⟨11, _⟩ => ⟨S256x16384, .i8⟩
  | .hbm, ⟨12, _⟩ => ⟨S64x256, .f32⟩
  | .hbm, ⟨13, _⟩ => ⟨S1x256x16384, .bf16⟩
  | .hbm, ⟨14, _⟩ => ⟨S1x256x16384, .i8⟩
  | .hbm, ⟨15, _⟩ => ⟨S256x64, .f32⟩
  | .hbm, ⟨16, _⟩ => ⟨S1x256x64, .f32⟩
  | .local _ .vmem, ⟨0, _⟩ => ⟨S256x6144, .bf16⟩
  | .local _ .vmem, ⟨1, _⟩ => ⟨S24x32x512, .i8⟩
  | .local _ .vmem, ⟨2, _⟩ => ⟨S24x32x512, .i8⟩
  | .local _ .vmem, ⟨3, _⟩ => ⟨S24x64x512, .i8⟩
  | .local _ .vmem, ⟨4, _⟩ => ⟨S24x64x512, .i8⟩
  | .local _ .vmem, ⟨5, _⟩ => ⟨S12x24x512, .i8⟩
  | .local _ .vmem, ⟨6, _⟩ => ⟨S12x24x512, .i8⟩
  | .local _ .vmem, ⟨7, _⟩ => ⟨S24x512, .i16⟩
  | .local _ .vmem, ⟨8, _⟩ => ⟨S24x512, .i16⟩
  | .local _ .vmem, ⟨9, _⟩ => ⟨S256x512, .bf16⟩
  | .local _ .vmem, ⟨10, _⟩ => ⟨S256x512, .bf16⟩
  | .local _ .vmem, ⟨11, _⟩ => ⟨S256x512, .i8⟩
  | .local _ .vmem, ⟨12, _⟩ => ⟨S256x512, .i8⟩
  | .local _ .vmem, ⟨13, _⟩ => ⟨S64x256, .f32⟩
  | .local _ .vmem, ⟨14, _⟩ => ⟨S6144x512, .bf16⟩
  | .local _ .vmem, ⟨15, _⟩ => ⟨S16x24x512, .bf16⟩
  | .local _ .vmem, ⟨16, _⟩ => ⟨S256x128, .f32⟩
  | _, _ => ⟨S1x256x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c31_i32 : BitVec 32 := 31#32
  let v6268 : BitVec 1 := Scalar.cmpi .eq arg0 c31_i32
  let v6269 : BitVec 32 := Scalar.extui v6268
  let c0_i32_2767 : BitVec 32 := 0#32
  let v6270 : BitVec 1 := Scalar.cmpi .ne v6269 c0_i32_2767
  v6270

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x32x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x64x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x24x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x256x6144 : Shape := ⟨3, ![1, 256, 6144]⟩
abbrev S16384x24x32 : Shape := ⟨3, ![16384, 24, 32]⟩
abbrev S16384x24x64 : Shape := ⟨3, ![16384, 24, 64]⟩
abbrev S16384x24x12 : Shape := ⟨3, ![16384, 24, 12]⟩
abbrev S16384x24 : Shape := ⟨2, ![16384, 24]⟩
abbrev S16384x24x8 : Shape := ⟨3, ![16384, 24, 8]⟩
abbrev S16384x24x1x8 : Shape := ⟨4, ![16384, 24, 1, 8]⟩
abbrev S2 : Shape := ⟨1, ![2]⟩
abbrev S_ : Shape := ⟨0, ![]⟩
abbrev S2x1 : Shape := ⟨2, ![2, 1]⟩
abbrev S1x1x2x1 : Shape := ⟨4, ![1, 1, 2, 1]⟩
abbrev S16384x24x2x8 : Shape := ⟨4, ![16384, 24, 2, 8]⟩
abbrev S16384x24x4 : Shape := ⟨3, ![16384, 24, 4]⟩
abbrev S16384x24x1x4 : Shape := ⟨4, ![16384, 24, 1, 4]⟩
abbrev S4 : Shape := ⟨1, ![4]⟩
abbrev S4x1 : Shape := ⟨2, ![4, 1]⟩
abbrev S1x1x4x1 : Shape := ⟨4, ![1, 1, 4, 1]⟩
abbrev S16384x24x4x4 : Shape := ⟨4, ![16384, 24, 4, 4]⟩
abbrev S16384x24x16 : Shape := ⟨3, ![16384, 24, 16]⟩
abbrev S16384x24x1 : Shape := ⟨3, ![16384, 24, 1]⟩
abbrev S16384x24x2x1x32 : Shape := ⟨5, ![16384, 24, 2, 1, 32]⟩
abbrev S1x1x1x4x1 : Shape := ⟨5, ![1, 1, 1, 4, 1]⟩
abbrev S16384x24x2x4x32 : Shape := ⟨5, ![16384, 24, 2, 4, 32]⟩
abbrev S16384x24x1x32 : Shape := ⟨4, ![16384, 24, 1, 32]⟩
abbrev S8 : Shape := ⟨1, ![8]⟩
abbrev S8x1 : Shape := ⟨2, ![8, 1]⟩
abbrev S1x1x8x1 : Shape := ⟨4, ![1, 1, 8, 1]⟩
abbrev S16384x24x8x32 : Shape := ⟨4, ![16384, 24, 8, 32]⟩
abbrev S16384x24x16x16 : Shape := ⟨4, ![16384, 24, 16, 16]⟩
abbrev S16384x24x16x1 : Shape := ⟨4, ![16384, 24, 16, 1]⟩
abbrev S16384x6144 : Shape := ⟨2, ![16384, 6144]⟩
abbrev S1x256x16384 : Shape := ⟨3, ![1, 256, 16384]⟩
abbrev S1x256x64x256 : Shape := ⟨4, ![1, 256, 64, 256]⟩
abbrev S1x256x64 : Shape := ⟨3, ![1, 256, 64]⟩
abbrev S1x256x64x1 : Shape := ⟨4, ![1, 256, 64, 1]⟩

abbrev nBuf : Space → Nat
  | .hbm => 169
  | .vmem => 0
  | .smem => 0
  | _ => 0

abbrev hbmTy0_0 (i : Nat) : BufTy := match i % 128 with
  | 0 => ⟨S1x256x6144, .bf16⟩
  | 1 => ⟨S16384x24x32, .i8⟩
  | 2 => ⟨S16384x24x64, .i8⟩
  | 3 => ⟨S16384x24x12, .i8⟩
  | 4 => ⟨S16384x24, .i16⟩
  | 5 => ⟨S16384x24x12, .i32⟩
  | 6 => ⟨S16384x24x8, .i32⟩
  | 7 => ⟨S16384x24x1x8, .i32⟩
  | 8 => ⟨S2, .i32⟩
  | 9 => ⟨S_, .i32⟩
  | 10 => ⟨S2, .i32⟩
  | 11 => ⟨S2, .i32⟩
  | 12 => ⟨S2x1, .i32⟩
  | 13 => ⟨S1x1x2x1, .i32⟩
  | 14 => ⟨S16384x24x2x8, .i32⟩
  | 15 => ⟨S16384x24x2x8, .i32⟩
  | 16 => ⟨S16384x24x2x8, .i32⟩
  | 17 => ⟨S_, .i32⟩
  | 18 => ⟨S16384x24x2x8, .i32⟩
  | 19 => ⟨S16384x24x2x8, .i32⟩
  | 20 => ⟨S16384x24x4, .i32⟩
  | 21 => ⟨S16384x24x1x4, .i32⟩
  | 22 => ⟨S4, .i32⟩
  | 23 => ⟨S_, .i32⟩
  | 24 => ⟨S4, .i32⟩
  | 25 => ⟨S4, .i32⟩
  | 26 => ⟨S4x1, .i32⟩
  | 27 => ⟨S1x1x4x1, .i32⟩
  | 28 => ⟨S16384x24x4x4, .i32⟩
  | 29 => ⟨S16384x24x4x4, .i32⟩
  | 30 => ⟨S16384x24x4x4, .i32⟩
  | 31 => ⟨S_, .i32⟩
  | 32 => ⟨S16384x24x4x4, .i32⟩
  | 33 => ⟨S16384x24x4x4, .i32⟩
  | 34 => ⟨S16384x24x16, .i32⟩
  | 35 => ⟨S16384x24x16, .i32⟩
  | 36 => ⟨S_, .i32⟩
  | 37 => ⟨S16384x24x16, .i32⟩
  | 38 => ⟨S16384x24x16, .i32⟩
  | 39 => ⟨S16384x24x16, .i32⟩
  | 40 => ⟨S16384x24, .i32⟩
  | 41 => ⟨S_, .i32⟩
  | 42 => ⟨S16384x24, .i32⟩
  | 43 => ⟨S16384x24, .i32⟩
  | 44 => ⟨S_, .i32⟩
  | 45 => ⟨S16384x24, .i32⟩
  | 46 => ⟨S16384x24, .i32⟩
  | 47 => ⟨S_, .i32⟩
  | 48 => ⟨S16384x24, .i32⟩
  | 49 => ⟨S16384x24, .i32⟩
  | 50 => ⟨S_, .i32⟩
  | 51 => ⟨S16384x24, .i32⟩
  | 52 => ⟨S16384x24, .i32⟩
  | 53 => ⟨S16384x24, .f32⟩
  | 54 => ⟨S_, .f32⟩
  | 55 => ⟨S16384x24, .f32⟩
  | 56 => ⟨S16384x24, .f32⟩
  | 57 => ⟨S_, .i32⟩
  | 58 => ⟨S16384x24, .i32⟩
  | 59 => ⟨S16384x24, .i32⟩
  | 60 => ⟨S16384x24, .f32⟩
  | 61 => ⟨S_, .i32⟩
  | 62 => ⟨S16384x24, .i32⟩
  | 63 => ⟨S16384x24, .i32⟩
  | 64 => ⟨S16384x24, .f32⟩
  | 65 => ⟨S16384x24, .f32⟩
  | 66 => ⟨S_, .f32⟩
  | 67 => ⟨S16384x24, .f32⟩
  | 68 => ⟨S16384x24, .f32⟩
  | 69 => ⟨S_, .i32⟩
  | 70 => ⟨S16384x24, .i32⟩
  | 71 => ⟨S16384x24, .i1⟩
  | 72 => ⟨S_, .f32⟩
  | 73 => ⟨S_, .f32⟩
  | 74 => ⟨S16384x24, .f32⟩
  | 75 => ⟨S16384x24, .f32⟩
  | 76 => ⟨S16384x24, .f32⟩
  | 77 => ⟨S_, .i32⟩
  | 78 => ⟨S16384x24, .i32⟩
  | 79 => ⟨S16384x24, .i1⟩
  | 80 => ⟨S_, .i32⟩
  | 81 => ⟨S16384x24, .i32⟩
  | 82 => ⟨S16384x24, .i1⟩
  | 83 => ⟨S16384x24, .f32⟩
  | 84 => ⟨S16384x24, .f32⟩
  | 85 => ⟨S16384x24, .f32⟩
  | 86 => ⟨S_, .i32⟩
  | 87 => ⟨S16384x24, .i32⟩
  | 88 => ⟨S16384x24, .i1⟩
  | 89 => ⟨S16384x24, .f32⟩
  | 90 => ⟨S16384x24, .f32⟩
  | 91 => ⟨S16384x24x1, .f32⟩
  | 92 => ⟨S_, .i32⟩
  | 93 => ⟨S16384x24x16, .i32⟩
  | 94 => ⟨S16384x24x16, .i32⟩
  | 95 => ⟨S16384x24x16, .f32⟩
  | 96 => ⟨S16384x24x16, .f32⟩
  | 97 => ⟨S16384x24x16, .f32⟩
  | 98 => ⟨S16384x24x16, .bf16⟩
  | 99 => ⟨S16384x24x32, .i32⟩
  | 100 => ⟨S16384x24x64, .i32⟩
  | 101 => ⟨S16384x24x2x1x32, .i32⟩
  | 102 => ⟨S4, .i32⟩
  | 103 => ⟨S_, .i32⟩
  | 104 => ⟨S4, .i32⟩
  | 105 => ⟨S4, .i32⟩
  | 106 => ⟨S4x1, .i32⟩
  | 107 => ⟨S1x1x1x4x1, .i32⟩
  | 108 => ⟨S16384x24x2x4x32, .i32⟩
  | 109 => ⟨S16384x24x2x4x32, .i32⟩
  | 110 => ⟨S16384x24x2x4x32, .i32⟩
  | 111 => ⟨S_, .i32⟩
  | 112 => ⟨S16384x24x2x4x32, .i32⟩
  | 113 => ⟨S16384x24x2x4x32, .i32⟩
  | 114 => ⟨S16384x24x1x32, .i32⟩
  | 115 => ⟨S8, .i32⟩
  | 116 => ⟨S8x1, .i32⟩
  | 117 => ⟨S1x1x8x1, .i32⟩
  | 118 => ⟨S16384x24x8x32, .i32⟩
  | 119 => ⟨S16384x24x8x32, .i32⟩
  | 120 => ⟨S16384x24x8x32, .i32⟩
  | 121 => ⟨S_, .i32⟩
  | 122 => ⟨S16384x24x8x32, .i32⟩
  | 123 => ⟨S16384x24x8x32, .i32⟩
  | 124 => ⟨S16384x24x2x4x32, .i32⟩
  | 125 => ⟨S_, .i32⟩
  | 126 => ⟨S16384x24x2x4x32, .i32⟩
  | 127 => ⟨S16384x24x2x4x32, .i32⟩
  | _ => ⟨S1x256x6144, .bf16⟩

abbrev hbmTy0_1 (i : Nat) : BufTy := match i % 128 with
  | 0 => ⟨S16384x24x2x4x32, .i32⟩
  | 1 => ⟨S_, .i32⟩
  | 2 => ⟨S16384x24x2x4x32, .i32⟩
  | 3 => ⟨S16384x24x2x4x32, .i32⟩
  | 4 => ⟨S16384x24x2x4x32, .bf16⟩
  | 5 => ⟨S16384x24x16x16, .bf16⟩
  | 6 => ⟨S16384x24x16x1, .bf16⟩
  | 7 => ⟨S16384x24x16x16, .bf16⟩
  | 8 => ⟨S16384x24x16x16, .bf16⟩
  | 9 => ⟨S16384x6144, .bf16⟩
  | 10 => ⟨S1x256x16384, .f32⟩
  | 11 => ⟨S1x256x64x256, .f32⟩
  | 12 => ⟨S1x256x64x256, .f32⟩
  | 13 => ⟨S_, .f32⟩
  | 14 => ⟨S1x256x64, .f32⟩
  | 15 => ⟨S_, .f32⟩
  | 16 => ⟨S1x256x64, .f32⟩
  | 17 => ⟨S1x256x64, .i1⟩
  | 18 => ⟨S_, .f32⟩
  | 19 => ⟨S1x256x64, .f32⟩
  | 20 => ⟨S1x256x64, .f32⟩
  | 21 => ⟨S_, .f32⟩
  | 22 => ⟨S_, .f32⟩
  | 23 => ⟨S1x256x64, .f32⟩
  | 24 => ⟨S1x256x64, .f32⟩
  | 25 => ⟨S1x256x64x1, .f32⟩
  | 26 => ⟨S1x256x64x256, .f32⟩
  | 27 => ⟨S1x256x64x256, .f32⟩
  | 28 => ⟨S1x256x64x256, .f32⟩
  | 29 => ⟨S_, .i32⟩
  | 30 => ⟨S_, .i32⟩
  | 31 => ⟨S_, .f32⟩
  | 32 => ⟨S1x256x64x256, .f32⟩
  | 33 => ⟨S1x256x64x256, .f32⟩
  | 34 => ⟨S_, .f32⟩
  | 35 => ⟨S1x256x64x256, .f32⟩
  | 36 => ⟨S1x256x64x256, .f32⟩
  | 37 => ⟨S1x256x64x256, .i32⟩
  | 38 => ⟨S1x256x64x256, .i8⟩
  | 39 => ⟨S1x256x16384, .i8⟩
  | 40 => ⟨S1x256x16384, .bf16⟩
  | _ => ⟨S1x256x6144, .bf16⟩

abbrev hbmTy (i : Nat) : BufTy := match i / 128 with
  | 0 => hbmTy0_0 i
  | 1 => hbmTy0_1 i
  | _ => ⟨S1x256x6144, .bf16⟩

abbrev bufTy : (tb : Table) → Fin (tcTables nBuf tb) → BufTy
  | .hbm, ⟨i, _⟩ => hbmTy i
  | _, _ => ⟨S1x256x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_c_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_cst_13 : Ref sig .tc := ⟨.hbm, 73, rfl⟩
abbrev main_call0_v0 : Ref sig .tc := ⟨.hbm, 74, rfl⟩
abbrev main_call0_v1 : Ref sig .tc := ⟨.hbm, 75, rfl⟩
abbrev main_v53 : Ref sig .tc := ⟨.hbm, 76, rfl⟩
abbrev main_c_14 : Ref sig .tc := ⟨.hbm, 77, rfl⟩
abbrev main_v54 : Ref sig .tc := ⟨.hbm, 78, rfl⟩
abbrev main_v55 : Ref sig .tc := ⟨.hbm, 79, rfl⟩
abbrev main_c_15 : Ref sig .tc := ⟨.hbm, 80, rfl⟩
abbrev main_v56 : Ref sig .tc := ⟨.hbm, 81, rfl⟩
abbrev main_v57 : Ref sig .tc := ⟨.hbm, 82, rfl⟩
abbrev main_call1_v0 : Ref sig .tc := ⟨.hbm, 83, rfl⟩
abbrev main_v58 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_17 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_20 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_c_21 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_22 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_23 : Ref sig .tc := ⟨.hbm, 141, rfl⟩
abbrev main_v108 : Ref sig .tc := ⟨.hbm, 142, rfl⟩
abbrev main_cst_24 : Ref sig .tc := ⟨.hbm, 143, rfl⟩
abbrev main_v109 : Ref sig .tc := ⟨.hbm, 144, rfl⟩
abbrev main_v110 : Ref sig .tc := ⟨.hbm, 145, rfl⟩
abbrev main_cst_25 : Ref sig .tc := ⟨.hbm, 146, rfl⟩
abbrev main_v111 : Ref sig .tc := ⟨.hbm, 147, rfl⟩
abbrev main_v112 : Ref sig .tc := ⟨.hbm, 148, rfl⟩
abbrev main_cst_26 : Ref sig .tc := ⟨.hbm, 149, rfl⟩
abbrev main_call4_v0 : Ref sig .tc := ⟨.hbm, 150, rfl⟩
abbrev main_call4_v1 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_27 : Ref sig .tc := ⟨.hbm, 157, rfl⟩
abbrev main_c_28 : Ref sig .tc := ⟨.hbm, 158, rfl⟩
abbrev main_call6_v0 : Ref sig .tc := ⟨.hbm, 159, rfl⟩
abbrev main_call6_v1 : Ref sig .tc := ⟨.hbm, 160, rfl⟩
abbrev main_call6_v2 : Ref sig .tc := ⟨.hbm, 161, rfl⟩
abbrev main_call6_v3 : Ref sig .tc := ⟨.hbm, 162, rfl⟩
abbrev main_call6_v4 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩

abbrev nD : Nat := 1
abbrev τ : Topo := Topo.v7x

variable {F : FTy → Type} [FloatOps F]
-- ==== Proof.Kernel.Body.lean ====
/-
  The kernel's body, run once at symbolic operands. The body is one straight line of about 9900 operations which the
  printer cuts into parts; each part is a theorem of its own, composed along the body.

  What the body leaves in the buffers it writes are terms over what it reads: the five staged inputs, the scales'
  scratch (of which it replaces two lanes) and the scales' result buffer (which it stores at the last grid point only).
-/
module

public import proofs.«01_k».proof.Proof.Gen.Kernel.Skeleton
public import Idealize.ShloMosaic.Lib.Tactic
public import Idealize.ShloMosaic.Lib.Pipeline.FrameBody

@[expose] public section

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the two blocks it stores at every point, in the scales' scratch and in the scales' result
    buffer, WITH the proof that from the eleven buffers held whole the body runs to its return, handing back the inputs
    as they were, those four buffers at the stated contents, and the other two scratch buffers at something. -/
noncomputable def bodyRun (c : Dev nD) (i : grid0.Coords)
    (M1 : Memref sig .tc .vmem S256x6144 .bf16) (h1 : M1.IsWhole) (M2 : Memref sig .tc .vmem S24x32x512 .i8) (h2 : M2.IsWhole)
    (M3 : Memref sig .tc .vmem S24x64x512 .i8) (h3 : M3.IsWhole) (M4 : Memref sig .tc .vmem S12x24x512 .i8) (h4 : M4.IsWhole)
    (M5 : Memref sig .tc .vmem S24x512 .i16) (h5 : M5.IsWhole) (M6 : Memref sig .tc .vmem S256x512 .bf16) (h6 : M6.IsWhole)
    (M7 : Memref sig .tc .vmem S256x512 .i8) (h7 : M7.IsWhole) (M8 : Memref sig .tc .vmem S64x256 .f32) (h8 : M8.IsWhole)
    (M9 : Memref sig .tc .vmem S6144x512 .bf16) (h9 : M9.IsWhole) (M10 : Memref sig .tc .vmem S16x24x512 .bf16) (h10 : M10.IsWhole)
    (M11 : Memref sig .tc .vmem S256x128 .f32) (h11 : M11.IsWhole)
    (f1 : Bf (F := F) c M1) (f2 : Bf (F := F) c M2) (f3 : Bf (F := F) c M3) (f4 : Bf (F := F) c M4) (f5 : Bf (F := F) c M5)
    (f8 : Bf (F := F) c M8) (f11 : Bf (F := F) c M11) :
    { W : Bf (F := F) c M6 × Bf (F := F) c M7 × Bf (F := F) c M11 × Bf (F := F) c M8 //
      ∀ (f6 : Bf (F := F) c M6) (f7 : Bf (F := F) c M7) (f9 : Bf (F := F) c M9) (f10 : Bf (F := F) c M10)
        (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 W.2.1
                ∗ pt c M8 W.2.2.2 ∗ (∃ f, pt c M9 f) ∗ (∃ f, pt c M10 f) ∗ pt c M11 W.2.2.1) -∗ Q ⟨⟩))
        ⊢ wp frame (wpE (defs₀ (F := F)) Variants.none c none) E
            (cc0_q3k_linear i M1 h1 M2 h2 M3 h3 M4 h4 M5 h5 M6 h6 M7 h7 M8 h8 M9 h9 M10 h10 M11 h11) Q } := by
  refine ⟨⟨?_, ?_, ?_, ?_⟩, fun f6 f7 f9 f10 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11

end Cert.Kernel.Hand

end
-- ==== Proof.Kernel.Pieces.lean ====
/-
  What the body computes, as functions of what it reads. The body's 384 stores into the weights' scratch and its 16
  stores into the group scales' scratch are one store each, written at a number: store `k` of the weights is the rows
  `16 k … 16 k + 15`, the group `k % 16` of the block `k / 16`.

  The definitions follow the kernel's own operations, at any arithmetic `F`. That they are what the body stores is
  definitional.
-/
module

public import proofs.«01_k».proof.Proof.Kernel.Body

@[expose] public section

set_option maxRecDepth 65536

noncomputable section

namespace Cert.Kernel.Hand

open Cert.Kernel Cert.Kernel.Gen

open Idealize.ShloMosaic
open Idealize.ShloMosaic.TcCoe Idealize.ShloMosaic.Tactic
open Idealize.ShloMosaic.View (ld canon)

variable {F : FTy → Type} [FloatOps F]

/-! ## The rectangles -/

/-- Block `n` of the high bits. -/
def rectHm (n : Fin 24) : Rect S24x32x512 :=
  Rect.unit ![n.val, 0, 0] S1x32x512.size (by intro a; fin_cases a <;> simp [S1x32x512, S24x32x512, Shape.size] <;> omega)
/-- Half `h` of block `n` of the low bits. -/
def rectQs (n : Fin 24) (h : Fin 2) : Rect S24x64x512 :=
  Rect.unit ![n.val, 32 * h.val, 0] S1x32x512.size (by intro a; fin_cases a <;> simp [S1x32x512, S24x64x512, Shape.size] <;> omega)
/-- Byte `s` of the packed scales of every block. -/
def rectSc (s : Fin 12) : Rect S12x24x512 :=
  Rect.unit ![s.val, 0, 0] S1x24x512.size (by intro a; fin_cases a <;> simp [S1x24x512, S12x24x512, Shape.size] <;> omega)
/-- The scales of group `g`, of every block. -/
def rectG (g : Fin 16) : Rect S16x24x512 :=
  Rect.unit ![g.val, 0, 0] S1x24x512.size (by intro a; fin_cases a <;> simp [S1x24x512, S16x24x512, Shape.size] <;> omega)
/-- The scales of group `g` of block `n`. -/
def rectGn (g : Fin 16) (n : Fin 24) : Rect S16x24x512 :=
  Rect.unit ![g.val, n.val, 0] S1x1x512.size (by intro a; fin_cases a <;> simp [S1x1x512, S16x24x512, Shape.size] <;> omega)
/-- The sixteen rows of the weights that store `k` writes. -/
def rectW (k : Fin 384) : Rect S6144x512 :=
  Rect.unit ![16 * k.val, 0] S16x512.size (by intro a; fin_cases a <;> simp [S16x512, S6144x512, Shape.size] <;> omega)

/-! ## The group scales -/

/-- The six-bit scale of group `g` less 32: four low bits from byte `g % 8`, two high bits from byte `8 + g % 4`. -/
def sixBits (X4 : Vec F S12x24x512 .i8) (g : Fin 16) : IVec S24x512 32 :=
  subi
    (ori
      (andi (shrsi (extui 32 (shapeCast S24x512 (ld X4 (rectSc ⟨g.val % 8, by omega⟩)) shapeCasts_S1x24x512_S24x512) natLt_8_32)
        (broadcast S24x512 (BitVec.ofNat 32 (4 * (g.val / 8))))) (broadcast S24x512 15#32))
      (shli
        (andi (shrsi (extui 32 (shapeCast S24x512 (ld X4 (rectSc ⟨8 + g.val % 4, by omega⟩)) shapeCasts_S1x24x512_S24x512) natLt_8_32)
          (broadcast S24x512 (BitVec.ofNat 32 (2 * (g.val / 4))))) (broadcast S24x512 3#32))
        (broadcast S24x512 4#32)))
    (broadcast S24x512 32#32)

/-- What the body stores as the scales of group `g`: a thirty-second of `d` times the six-bit scale, rounded. -/
def gPay (X4 : Vec F S12x24x512 .i8) (X5 : Vec F S24x512 .i16) (g : Fin 16) : FVec F S1x24x512 .bf16 :=
  shapeCast S1x24x512
    (truncf .bf16 (mulf (k0_pay3 (ld X5 (Rect.unit ![0, 0] S24x512.size inb_S24x512_S24x512_0_0))) (sitofp .f32 (sixBits (F := F) X4 g))) bitsLt_bf16_f32)
    shapeCasts_S24x512_S1x24x512

/-- The first `k` stores into the group scales' scratch, latest first. -/
def gPieces (X4 : Vec F S12x24x512 .i8) (X5 : Vec F S24x512 .i16) : (k : Nat) → k ≤ 16 → List (View.Piece (Elt F) S16x24x512 .bf16) :=
  Nat.rec (fun _ => []) fun k L h => ⟨rectG ⟨k, h⟩, gPay X4 X5 ⟨k, h⟩⟩ :: L (Nat.le_of_succ_le h)

/-! ## The weights -/

/-- Four rows' high bits in a word, inverted. -/
def hmWords (X2 : Vec F S24x32x512 .i8) (n : Fin 24) : IVec S8x512 32 :=
  xori (bitcast S8x512 32 (shapeCast S32x512 (ld X2 (rectHm n)) shapeCasts_S1x32x512_S32x512) bitcasts_S32x512_w8_S8x512_w32)
    (constantI S8x512 32 4294967295#32)
/-- Four rows' low bits in a word. -/
def qsWords (X3 : Vec F S24x64x512 .i8) (n : Fin 24) (h : Fin 2) : IVec S8x512 32 :=
  bitcast S8x512 32 (shapeCast S32x512 (ld X3 (rectQs n h)) shapeCasts_S1x32x512_S32x512) bitcasts_S32x512_w8_S8x512_w32

/-- The low bits of field `j`, moved to bits 5 and 6 of every byte (other bits are masked off afterwards). -/
def lowShift (v : IVec S8x512 32) (j : Nat) : IVec S8x512 32 :=
  match j with
  | 0 => shli v (broadcast S8x512 5#32)
  | 1 => shli v (broadcast S8x512 3#32)
  | 2 => shli v (broadcast S8x512 1#32)
  | _ => shrui v (broadcast S8x512 1#32)
/-- The high bit of field `f`, moved to bit 7 of every byte. -/
def highShift (v : IVec S8x512 32) (f : Nat) : IVec S8x512 32 :=
  match f with
  | 7 => v
  | f => shli v (broadcast S8x512 (BitVec.ofNat 32 (7 - f)))

/-- The codes of field `f` of block `n`, thirty-two times over: as signed bytes, then as numbers. -/
def fieldCodes (X2 : Vec F S24x32x512 .i8) (X3 : Vec F S24x64x512 .i8) (n : Fin 24) (f : Fin 8) : FVec F S32x512 .bf16 :=
  sitofp .bf16
    (bitcast S32x512 8
      (ori (andi (lowShift (qsWords X3 n ⟨f.val / 4, by omega⟩) (f.val % 4)) (broadcast S8x512 1616928864#32))
        (andi (highShift (hmWords X2 n) f.val) (broadcast S8x512 2155905152#32)))
      bitcasts_S8x512_w32_S32x512_w8)

theorem slices_half (t : Fin 2) : S32x512.Slices ![16 * t.val, 0] S16x512 := by
  revert t; decide

/-- What store `k` writes into the weights: the codes of its sixteen rows, each times its column's group scale. -/
def wPay (X2 : Vec F S24x32x512 .i8) (X3 : Vec F S24x64x512 .i8) (G : Vec F S16x24x512 .bf16) (k : Fin 384) : FVec F S16x512 .bf16 :=
  shapeCast S16x512
    (mulf
      (extractStridedSlice S16x512 ![16 * (k.val % 2), 0]
        (fieldCodes X2 X3 ⟨k.val / 16, by omega⟩ ⟨k.val / 2 % 8, by omega⟩) (slices_half ⟨k.val % 2, by omega⟩))
      (broadcastTo S16x512
        (shapeCast S1x512
          (shapeCast S1x512 (ld G (rectGn ⟨k.val % 16, by omega⟩ ⟨k.val / 16, by omega⟩)) shapeCasts_S1x1x512_S1x512)
          shapeCasts_S1x512_S1x512)
        broadcasts_S1x512_S16x512))
    shapeCasts_S16x512_S16x512

/-- The first `k` stores into the weights' scratch, latest first. -/
def wPieces (X2 : Vec F S24x32x512 .i8) (X3 : Vec F S24x64x512 .i8) (G : Vec F S16x24x512 .bf16) :
    (k : Nat) → k ≤ 384 → List (View.Piece (Elt F) S6144x512 .bf16) :=
  Nat.rec (fun _ => []) fun k L h => ⟨rectW ⟨k, h⟩, wPay X2 X3 G ⟨k, h⟩⟩ :: L (Nat.le_of_succ_le h)

/-! ## They are what the body stores -/

section
variable (c : Dev nD) (M2 : Memref sig .tc .vmem S24x32x512 .i8) (M3 : Memref sig .tc .vmem S24x64x512 .i8)
  (M4 : Memref sig .tc .vmem S12x24x512 .i8) (M5 : Memref sig .tc .vmem S24x512 .i16)
  (M10 : Memref sig .tc .vmem S16x24x512 .bf16)
  (f2 : Bf (F := F) c M2) (f3 : Bf (F := F) c M3) (f4 : Bf (F := F) c M4) (f5 : Bf (F := F) c M5)

theorem gPieces_eq : bodyRun.sl.H10_16 c M4 M5 f4 f5
    = gPieces (M4.view.read (Elt F) f4) (M5.view.read (Elt F) f5) 16 (Nat.le_refl _) := by
  sl_kernel_rfl

theorem wPieces_eq : bodyRun.sl.H9_384 c M2 M3 M4 M5 M10 f2 f3 f4 f5
    = wPieces (M2.view.read (Elt F) f2) (M3.view.read (Elt F) f3)
        (M10.view.read (Elt F) (M10.view.writes (Elt F) M10.view.junk (bodyRun.sl.H10_16 c M4 M5 f4 f5))) 384 (Nat.le_refl _) := by
  sl_kernel_rfl

end

end Cert.Kernel.Hand

end
-- ==== Proof.Kernel.Step.lean ====
/-
  One grid point: what the body leaves in each buffer, as a function of what it reads there and of nothing else (not of
  the staging buffers it runs on, not of what it overwrites).
-/
module

public import proofs.«01_k».proof.Proof.Kernel.Pieces
public import Idealize.ShloMosaic.Lib.Pipeline.Value

@[expose] public section

set_option maxRecDepth 65536

noncomputable section

namespace Cert.Kernel.Hand

open Cert.Kernel Cert.Kernel.Gen

open Idealize.ShloMosaic
open Idealize.ShloMosaic.TcCoe Idealize.ShloMosaic.Tactic
open Idealize.ShloMosaic.View (ld canon)

variable {F : FTy → Type} [FloatOps F]

/-- The weights of the point's 512 columns. -/
def weights (X2 : Vec F S24x32x512 .i8) (X3 : Vec F S24x64x512 .i8) (X4 : Vec F S12x24x512 .i8) (X5 : Vec F S24x512 .i16) :
    Vec F S6144x512 .bf16 :=
  canon (wPieces X2 X3 (canon (gPieces X4 X5 16 (Nat.le_refl _))) 384 (Nat.le_refl _))

/-- The rows' whole rectangle, of the activations. -/
abbrev allX : Rect S256x6144 := Rect.unit ![0, 0] S256x6144.size inb_S256x6144_S256x6144_0_0
/-- The whole rectangle of the weights. -/
abbrev allW : Rect S6144x512 := Rect.unit ![0, 0] S6144x512.size inb_S6144x512_S6144x512_0_0
/-- The whole rectangle of the scales' scratch. -/
abbrev allS : Rect S256x128 := Rect.unit ![0, 0] S256x128.size inb_S256x128_S256x128_0_0

/-- The scales of the point's first 256 columns, a row each. -/
def scaleA (X : Vec F S256x6144 .bf16) (W : Vec F S6144x512 .bf16) : FVec F S256x1 .f32 :=
  k0_pay820 (k0_pay817 X W) (k0_pay818 X W) k0_pay819
/-- The scales of its last 256 columns. -/
def scaleB (X : Vec F S256x6144 .bf16) (W : Vec F S6144x512 .bf16) : FVec F S256x1 .f32 :=
  k0_pay824 (k0_pay813 X W)

/-- The product, rounded. -/
def outY (X1 : Vec F S256x6144 .bf16) (W : Vec F S6144x512 .bf16) : Vec F S256x512 .bf16 :=
  canon [⟨Rect.unit ![0, 0] S256x512.size inb_S256x512_S256x512_0_0, k0_pay814 (ld X1 allX) (ld W allW)⟩]

/-- The product's codes: a scale for each row of either half. -/
def outC (X1 : Vec F S256x6144 .bf16) (W : Vec F S6144x512 .bf16) : Vec F S256x512 .i8 :=
  canon [⟨Rect.unit ![0, 256] S256x256.size inb_S256x512_S256x256_0_256,
      k0_pay826 (k0_pay825 (k0_pay813 (ld X1 allX) (ld W allW))) 4294967169#32 127#32⟩,
    ⟨Rect.unit ![0, 0] S256x256.size inb_S256x512_S256x256_0_0,
      k0_pay821 (k0_pay815 (ld X1 allX) (ld W allW)) (k0_pay817 (ld X1 allX) (ld W allW)) (k0_pay818 (ld X1 allX) (ld W allW)) k0_pay819⟩]

/-- The scales' scratch: as it was, but for the two lanes of the point. -/
def outS (i : grid0.Coords) (X1 : Vec F S256x6144 .bf16) (W : Vec F S6144x512 .bf16) (S : Vec F S256x128 .f32) : Vec F S256x128 .f32 :=
  let L : List (View.Piece (Elt F) S256x128 .f32) :=
    [⟨allS, k0_pay822 (BitVec.ofNat 32 (i 0).val) (iota .tc S256x128 32 [1] iota_S256x128_d1_w32) (k0_pay817 (ld X1 allX) (ld W allW))
      (k0_pay818 (ld X1 allX) (ld W allW)) k0_pay819 (ld S allS)⟩]
  canon (⟨allS, k0_pay1 (iota .tc S256x128 32 [1] iota_S256x128_d1_w32) (scaleB (ld X1 allX) (ld W allW)) (k0_pay827 (BitVec.ofNat 32 (i 0).val))
    (ld (canon L) allS)⟩ :: L)

/-- The scales' result: the scratch's first 64 lanes, transposed. -/
def outT (S : Vec F S256x128 .f32) : Vec F S64x256 .f32 :=
  canon [⟨Rect.unit ![0, 0] S64x256.size inb_S64x256_S64x256_0_0, k0_pay2 (ld S allS)⟩]

section
variable (c : Dev nD) (i : grid0.Coords)
    (M1 : Memref sig .tc .vmem S256x6144 .bf16) (h1 : M1.IsWhole) (M2 : Memref sig .tc .vmem S24x32x512 .i8) (h2 : M2.IsWhole)
    (M3 : Memref sig .tc .vmem S24x64x512 .i8) (h3 : M3.IsWhole) (M4 : Memref sig .tc .vmem S12x24x512 .i8) (h4 : M4.IsWhole)
    (M5 : Memref sig .tc .vmem S24x512 .i16) (h5 : M5.IsWhole) (M6 : Memref sig .tc .vmem S256x512 .bf16) (h6 : M6.IsWhole)
    (M7 : Memref sig .tc .vmem S256x512 .i8) (h7 : M7.IsWhole) (M8 : Memref sig .tc .vmem S64x256 .f32) (h8 : M8.IsWhole)
    (M9 : Memref sig .tc .vmem S6144x512 .bf16) (h9 : M9.IsWhole) (M10 : Memref sig .tc .vmem S16x24x512 .bf16) (h10 : M10.IsWhole)
    (M11 : Memref sig .tc .vmem S256x128 .f32) (h11 : M11.IsWhole)
    (f1 : Bf (F := F) c M1) (f2 : Bf (F := F) c M2) (f3 : Bf (F := F) c M3) (f4 : Bf (F := F) c M4) (f5 : Bf (F := F) c M5)
    (f8 : Bf (F := F) c M8) (f11 : Bf (F := F) c M11)

/-- The weights the body's product reads are `weights`. -/
theorem read_weights : bodyRun.sl.v6195 c M2 M3 M4 M5 M9 M10 f2 f3 f4 f5
    = ld (weights (M2.view.read (Elt F) f2) (M3.view.read (Elt F) f3) (M4.view.read (Elt F) f4) (M5.view.read (Elt F) f5)) allW := by
  unfold bodyRun.sl.v6195 weights
  rw [View.readCov_eq_canon', wPieces_eq, View.read_writes_junk_eq_canon, gPieces_eq]

/-- The contents the run leaves: writes over what was there. -/
theorem run_eq : (bodyRun c i M1 h1 M2 h2 M3 h3 M4 h4 M5 h5 M6 h6 M7 h7 M8 h8 M9 h9 M10 h10 M11 h11 f1 f2 f3 f4 f5 f8 f11).1
    = (M6.view.writes (Elt F) M6.view.junk (bodyRun.sl.H6_1 c M1 M2 M3 M4 M5 M9 M10 f1 f2 f3 f4 f5),
       M7.view.writes (Elt F) M7.view.junk (bodyRun.sl.H7_2 c M1 M2 M3 M4 M5 M9 M10 f1 f2 f3 f4 f5),
       M11.view.writes (Elt F) M11.view.junk (bodyRun.sl.H11_2 c i M1 M2 M3 M4 M5 M9 M10 M11 f1 f2 f3 f4 f5 f11),
       if k0_cond1 i = 1#1 then M8.view.writes (Elt F) f8 [⟨Rect.unit ![0, 0] S64x256.size inb_S64x256_S64x256_0_0,
         k0_pay2 (bodyRun.sl.v6271 c i M1 M2 M3 M4 M5 M9 M10 M11 f1 f2 f3 f4 f5 f11)⟩] else f8) := by
  sl_kernel_rfl

/-- The rounded product's block. -/
theorem run_y : M6.view.read (Elt F)
      (bodyRun c i M1 h1 M2 h2 M3 h3 M4 h4 M5 h5 M6 h6 M7 h7 M8 h8 M9 h9 M10 h10 M11 h11 f1 f2 f3 f4 f5 f8 f11).1.1
    = outY (M1.view.read (Elt F) f1) (weights (M2.view.read (Elt F) f2) (M3.view.read (Elt F) f3) (M4.view.read (Elt F) f4) (M5.view.read (Elt F) f5)) := by
  rw [run_eq, View.read_writes_junk_eq_canon]
  unfold bodyRun.sl.H6_1
  rw [read_weights]; rfl

/-- The codes' block. -/
theorem run_c : M7.view.read (Elt F)
      (bodyRun c i M1 h1 M2 h2 M3 h3 M4 h4 M5 h5 M6 h6 M7 h7 M8 h8 M9 h9 M10 h10 M11 h11 f1 f2 f3 f4 f5 f8 f11).1.2.1
    = outC (M1.view.read (Elt F) f1) (weights (M2.view.read (Elt F) f2) (M3.view.read (Elt F) f3) (M4.view.read (Elt F) f4) (M5.view.read (Elt F) f5)) := by
  rw [run_eq, View.read_writes_junk_eq_canon]
  unfold bodyRun.sl.H7_2 bodyRun.sl.r_291 bodyRun.sl.r_287 bodyRun.sl.r_288 bodyRun.sl.r_289 bodyRun.sl.r_286
  rw [read_weights]; rfl

theorem pieces_S : bodyRun.sl.H11_1 c i M1 M2 M3 M4 M5 M9 M10 M11 f1 f2 f3 f4 f5 f11
    = [⟨allS, k0_pay822 (BitVec.ofNat 32 (i 0).val) (iota .tc S256x128 32 [1] iota_S256x128_d1_w32) (k0_pay817 (ld (M1.view.read (Elt F) f1) allX) (ld (weights (M2.view.read (Elt F) f2) (M3.view.read (Elt F) f3) (M4.view.read (Elt F) f4) (M5.view.read (Elt F) f5)) allW))
      (k0_pay818 (ld (M1.view.read (Elt F) f1) allX) (ld (weights (M2.view.read (Elt F) f2) (M3.view.read (Elt F) f3) (M4.view.read (Elt F) f4) (M5.view.read (Elt F) f5)) allW)) k0_pay819 (ld (M11.view.read (Elt F) f11) allS)⟩] := by
  unfold bodyRun.sl.H11_1 bodyRun.sl.r_288 bodyRun.sl.r_289
  rw [read_weights]; rfl

theorem canon_S : canon (bodyRun.sl.H11_2 c i M1 M2 M3 M4 M5 M9 M10 M11 f1 f2 f3 f4 f5 f11)
    = outS i (M1.view.read (Elt F) f1) (weights (M2.view.read (Elt F) f2) (M3.view.read (Elt F) f3) (M4.view.read (Elt F) f4) (M5.view.read (Elt F) f5)) (M11.view.read (Elt F) f11) := by
  unfold bodyRun.sl.H11_2 bodyRun.sl.v6261 bodyRun.sl.r_290 bodyRun.sl.r_286
  rw [View.readCov_eq_canon', pieces_S, read_weights]; rfl

/-- The scales' scratch. -/
theorem run_s : M11.view.read (Elt F)
      (bodyRun c i M1 h1 M2 h2 M3 h3 M4 h4 M5 h5 M6 h6 M7 h7 M8 h8 M9 h9 M10 h10 M11 h11 f1 f2 f3 f4 f5 f8 f11).1.2.2.1
    = outS i (M1.view.read (Elt F) f1) (weights (M2.view.read (Elt F) f2) (M3.view.read (Elt F) f3) (M4.view.read (Elt F) f4) (M5.view.read (Elt F) f5)) (M11.view.read (Elt F) f11) := by
  rw [run_eq, View.read_writes_junk_eq_canon, canon_S]

/-- At the last point the scales' result is stored, -/
theorem run_t (hc : k0_cond1 i = 1#1) : M8.view.read (Elt F)
      (bodyRun c i M1 h1 M2 h2 M3 h3 M4 h4 M5 h5 M6 h6 M7 h7 M8 h8 M9 h9 M10 h10 M11 h11 f1 f2 f3 f4 f5 f8 f11).1.2.2.2
    = outT (outS i (M1.view.read (Elt F) f1) (weights (M2.view.read (Elt F) f2) (M3.view.read (Elt F) f3) (M4.view.read (Elt F) f4) (M5.view.read (Elt F) f5)) (M11.view.read (Elt F) f11)) := by
  rw [run_eq]
  dsimp only
  rw [if_pos hc, View.read_writes_eq_canon]
  · unfold bodyRun.sl.v6271
    rw [View.readCov_eq_canon', canon_S]; rfl
  · intro y
    exact ⟨_, List.mem_singleton_self _, View.mem_set_unit_zero (by funext a; fin_cases a <;> rfl) inb_S64x256_S64x256_0_0 y⟩

/-- and at every other it is left as it was. -/
theorem run_t_idle (hc : ¬ k0_cond1 i = 1#1) :
    (bodyRun c i M1 h1 M2 h2 M3 h3 M4 h4 M5 h5 M6 h6 M7 h7 M8 h8 M9 h9 M10 h10 M11 h11 f1 f2 f3 f4 f5 f8 f11).1.2.2.2 = f8 := by
  rw [run_eq]
  dsimp only
  rw [if_neg hc]

end

end Cert.Kernel.Hand

end
-- ==== Proof.Kernel.Lanes.lean ====
/-
  The scales' scratch lane by lane: a point writes the two lanes of its own number, and the scales' result is the lanes
  as rows.
-/
module

public import proofs.«01_k».proof.Proof.Kernel.Step
public import Idealize.ShloMosaic.Lib.Pointwise
public import Idealize.ShloMosaic.Lib.Pipeline.ValueKit
public import Idealize.ShloMosaic.Lib.WordCmp

@[expose] public section

set_option maxRecDepth 16384

noncomputable section

namespace Cert.Kernel.Hand

open Cert.Kernel Cert.Kernel.Gen

open Idealize.ShloMosaic
open Idealize.ShloMosaic.TcCoe Idealize.ShloMosaic.Tactic
open Idealize.ShloMosaic.View (ld canon)

variable {F : FTy → Type} [FloatOps F]

theorem ld_allX (X : Vec F S256x6144 .bf16) : (ld X allX : Vec F S256x6144 .bf16) = X := View.ld_unit_lit _ X (by decide)
theorem ld_allW (X : Vec F S6144x512 .bf16) : (ld X allW : Vec F S6144x512 .bf16) = X := View.ld_unit_lit _ X (by decide)
theorem ld_allS (X : Vec F S256x128 .f32) : (ld X allS : Vec F S256x128 .f32) = X := View.ld_unit_lit _ X (by decide)
theorem canon_allS (w : Vec F S256x128 .f32) (L : List (View.Piece (Elt F) S256x128 .f32)) : canon (⟨allS, w⟩ :: L) = w :=
  View.canon_cons_unit_lit _ w L (by decide)

theorem lane_word (l i e : Nat) (hl : l < 128) (hi : i < 32) (he : e < 2) :
    (BitVec.ofNat 32 l = BitVec.ofNat 32 i * 2#32 + BitVec.ofNat 32 e) ↔ l = 2 * i + e := by
  rw [← BitVec.toNat_inj]
  simp only [BitVec.toNat_add, BitVec.toNat_mul, BitVec.toNat_ofNat]
  omega

/-- The scratch after point `i`: lane `2 i` is the first half's scales, lane `2 i + 1` the second half's, and every other
    lane is as it was. -/
theorem outS_apply (i : grid0.Coords) (X1 : Vec F S256x6144 .bf16) (W : Vec F S6144x512 .bf16) (S : Vec F S256x128 .f32)
    (r : Fin 256) (l : Fin 128) : outS i X1 W S (ix2 r l)
      = if l.val = 2 * (i 0).val + 1 then scaleB X1 W (ix2 r 0)
        else if l.val = 2 * (i 0).val then scaleA X1 W (ix2 r 0) else S (ix2 r l) := by
  have hi : (i 0).val < 32 := (i 0).isLt
  have hl : l.val < 128 := l.isLt
  unfold outS
  simp only [canon_allS, ld_allS, ld_allX, ld_allW]
  generalize scaleB X1 W = b
  have ha : k0_pay820 (k0_pay817 X1 W) (k0_pay818 X1 W) k0_pay819 = scaleA X1 W := rfl
  generalize scaleA X1 W = a at ha ⊢
  have e1 := lane_word l.val (i 0).val 1 hl hi (by decide)
  have e0 := lane_word l.val (i 0).val 0 hl hi (by decide)
  pointwise [k0_pay1, k0_pay822, k0_pay827]
  rw [ha]
  unfold Scalar.select IntOp.cmpi Scalar.addi Scalar.muli IntOp.addi IntOp.muli
  by_cases h1 : l.val = 2 * (i 0).val + 1
  · rw [if_pos h1, e1.mpr h1]; simp
  · have n1 := mt e1.mp h1
    rw [if_neg h1]
    by_cases h0 : l.val = 2 * (i 0).val
    · rw [if_pos h0]
      have p0 := e0.mpr h0
      rw [beq_eq_false_iff_ne.mpr n1, beq_iff_eq.mpr p0]; simp
    · rw [if_neg h0]
      have n0 := mt e0.mp h0
      simp only [beq_eq_false_iff_ne.mpr n1, beq_eq_false_iff_ne.mpr n0]; simp

theorem outT_apply (S : Vec F S256x128 .f32) (l : Fin 64) (r : Fin 256) :
    outT S (ix2 l r) = S (ix2 r ⟨l.val, by omega⟩) := by
  unfold outT
  rw [View.canon_cons_unit_lit inb_S64x256_S64x256_0_0 _ _ (by decide), ld_allS]
  pointwise [k0_pay2]

end Cert.Kernel.Hand

end
-- ==== Proof.Kernel.Frame.lean ====
/-
  The launch: what every grid point leaves in each window's buffer, what the scales' scratch holds before each point, and
  the run that follows — it ends, nothing faults, the arguments are unchanged, and every array is as stated.
-/
module

public import proofs.«01_k».proof.Proof.Kernel.Lanes
public import proofs.«01_k».proof.Proof.Gen.Kernel.Frame

@[expose] public section

set_option maxRecDepth 16384

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- The activations, as staged at point `t`. -/
def xAt (c : Dev nD) (t : Fin cfg0.N) : Vec F S256x6144 .bf16 := iblk m c 0 t
/-- The weights of point `t`'s 512 columns. -/
def wAt (c : Dev nD) (t : Fin cfg0.N) : Vec F S6144x512 .bf16 := weights (iblk m c 1 t) (iblk m c 2 t) (iblk m c 3 t) (iblk m c 4 t)
/-- The scale of row `r` for the `l`-th run of 256 columns: point `l / 2` computes it, for its first half or its second. -/
def scaleAt (c : Dev nD) (l : Fin 64) (r : Fin 256) : Elt F .f32 :=
  if l.val % 2 = 1 then scaleB (xAt m c ⟨l.val / 2, by have := l.isLt; have := N_0; show _ < grid0.N; omega⟩) (wAt m c ⟨l.val / 2, by have := l.isLt; have := N_0; show _ < grid0.N; omega⟩) (ix2 r 0)
  else scaleA (xAt m c ⟨l.val / 2, by have := l.isLt; have := N_0; show _ < grid0.N; omega⟩) (wAt m c ⟨l.val / 2, by have := l.isLt; have := N_0; show _ < grid0.N; omega⟩) (ix2 r 0)

/-- The scales' scratch holds the scales of the runs below `2 n`, a lane each. -/
def Filled (c : Dev nD) (n : Nat) (S : Vec F S256x128 .f32) : Prop :=
  ∀ (l : Fin 64) (r : Fin 256), l.val < 2 * n → S (ix2 r ⟨l.val, by have := l.isLt; omega⟩) = scaleAt m c l r

theorem coords_val : ∀ t : Fin cfg0.N, ((grid0.coords t) 0).val = t.val := (by decide +kernel : ∀ t : Fin grid0.N, _)
theorem cond_last : ∀ t : Fin cfg0.N, k0_cond1 (grid0.coords t) = 1#1 ↔ t.val = 31 := (by decide +kernel : ∀ t : Fin grid0.N, _)

/-- A point fills the next two lanes. -/
theorem filled_step (c : Dev nD) (t : Fin cfg0.N) (S : Vec F S256x128 .f32) (h : Filled m c t.val S) :
    Filled m c (t.val + 1) (outS (grid0.coords t) (xAt m c t) (wAt m c t) S) := by
  intro l r hl
  rw [outS_apply, coords_val]
  by_cases h1 : l.val = 2 * t.val + 1
  · rw [if_pos h1]; unfold scaleAt
    rw [if_pos (by omega)]
    rw [show (⟨l.val / 2, _⟩ : Fin cfg0.N) = t from Fin.ext (show l.val / 2 = t.val by omega)]
  · rw [if_neg h1]
    by_cases h0 : l.val = 2 * t.val
    · rw [if_pos h0]; unfold scaleAt
      rw [if_neg (by omega)]
      rw [show (⟨l.val / 2, _⟩ : Fin cfg0.N) = t from Fin.ext (show l.val / 2 = t.val by omega)]
    · rw [if_neg h0]
      exact h l r (by omega)

/-- The scales' result: run by run, a row each. -/
def scaleRows (c : Dev nD) : Vec F S64x256 .f32 := fun i => scaleAt m c (i 0) (i 1)

theorem outT_filled (c : Dev nD) (S : Vec F S256x128 .f32) (h : Filled m c 32 S) : outT S = scaleRows m c := by
  funext i
  obtain ⟨l, r, rfl⟩ : ∃ (l : Fin 64) (r : Fin 256), i = ix2 l r := ⟨i 0, i 1, eq_ix2 _⟩
  rw [outT_apply]
  exact h l r (by have := l.isLt; omega)

/-! ## The proof data -/

abbrev scr0 : Memref sig .tc .vmem S6144x512 .bf16 := Memref.whole cc0_scratch0
abbrev scr1 : Memref sig .tc .vmem S16x24x512 .bf16 := Memref.whole cc0_scratch1
abbrev scr2 : Memref sig .tc .vmem S256x128 .f32 := Memref.whole cc0_scratch2

/-- Before point `n`: the weights' scratch and the factors' scratch at anything, the scales' scratch with the lanes below
    `2 n` filled, and the core's random register at anything. -/
def Inv (c : Dev nD) (n : Nat) : sProp 𝕄 :=
  iprop((∃ f, pt c scr0 f) ∗ (∃ f, pt c scr1 f) ∗ (∃ f, ⌜Filled m c n (scr2.view.read (Elt F) f)⌝ ∗ pt c scr2 f) ∗ ∃ r, prngReg c r)

/-- What the launch leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (xAt m c t) (wAt m c t)
    | ⟨6, _⟩ => outC (xAt m c t) (wAt m c t)
    | ⟨7, _⟩ => scaleRows m c
  Φ t := Inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outY (xAt m c t) (wAt m c t) := by dsimp only [dats]
theorem after6 (c : Dev nD) (t : Fin cfg0.N) : (dats m 0 c).after 6 t = outC (xAt m c t) (wAt m c t) := by dsimp only [dats]
theorem after7 (c : Dev nD) (t : Fin cfg0.N) : (dats m 0 c).after 7 t = scaleRows m c := by dsimp only [dats]

/-! ## The body at a point -/

theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  iintro ⟨%f, %hf, H⟩
  obtain rfl := h.eq_unread hf
  rw [h.set_eq_univ]
  iexact H

theorem pt_owns (c : Dev nD) {sp : Space} {S : Shape} {e : EltTy} (M : Memref sig .tc sp S e) (h : M.IsWhole) {f : Bf (F := F) c M}
    {X : S.Idx → Elt F e} (hx : M.view.read (Elt F) f = X) : pt c M f ⊢ (owns (c : Thread nD τ) M fullShare X : sProp 𝕄) := by
  unfold owns pt
  iintro H
  iexists f; isplitr; · ipureintro; exact hx
  rw [h.set_eq_univ]
  iexact H

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)
abbrev hst5 (t : Fin cfg0.N) : (st0_5 t).IsWhole := hstage0_5 ((cfg0.slots t 5).cast nbuf0_5)
abbrev hst6 (t : Fin cfg0.N) : (st0_6 t).IsWhole := hstage0_6 ((cfg0.slots t 6).cast nbuf0_6)
abbrev hst7 (t : Fin cfg0.N) : (st0_7 t).IsWhole := hstage0_7 ((cfg0.slots t 7).cast nbuf0_7)

/-- The body's precondition at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- The scales' result buffer after point `t`: as found, but the scales at the last point. -/
def post7 (c : Dev nD) (t : Fin cfg0.N) : sProp 𝕄 :=
  if t.val = 31 then owns (c : Thread nD τ) (st0_7 t) fullShare ((dats m 0 c).after 7 t)
  else iprop(∃ d, owns (c : Thread nD τ) (st0_7 t) fullShare ((dats m 0 c).before 7 t d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t)

section
variable (c : Dev nD) (t : Fin cfg0.N)
  (f8 : Bf (F := F) c (st0_7 t)) (f11 : Bf (F := F) c scr2)

/-- The body's run at point `t` on the staged blocks. -/
abbrev runAt := bodyRun c (grid0.coords t) (st0_0 t) (hst0 t) (st0_1 t) (hst1 t) (st0_2 t) (hst2 t) (st0_3 t) (hst3 t) (st0_4 t) (hst4 t)
  (st0_5 t) (hst5 t) (st0_6 t) (hst6 t) (st0_7 t) (hst7 t) scr0 (Memref.isWhole_whole _) scr1 (Memref.isWhole_whole _) scr2 (Memref.isWhole_whole _)
  ((hst0 t).unread (iblk m c 0 t)) ((hst1 t).unread (iblk m c 1 t)) ((hst2 t).unread (iblk m c 2 t)) ((hst3 t).unread (iblk m c 3 t))
  ((hst4 t).unread (iblk m c 4 t)) f8 f11

theorem runAt_y : (st0_5 t).view.read (Elt F) (runAt m c t f8 f11).1.1 = outY (xAt m c t) (wAt m c t) := by
  rw [run_y]; simp only [Memref.IsWhole.read_unread]; rfl
theorem runAt_c : (st0_6 t).view.read (Elt F) (runAt m c t f8 f11).1.2.1 = outC (xAt m c t) (wAt m c t) := by
  rw [run_c]; simp only [Memref.IsWhole.read_unread]; rfl
theorem runAt_s : scr2.view.read (Elt F) (runAt m c t f8 f11).1.2.2.1
    = outS (grid0.coords t) (xAt m c t) (wAt m c t) (scr2.view.read (Elt F) f11) := by
  rw [run_s]; simp only [Memref.IsWhole.read_unread]; rfl
theorem runAt_t (h : t.val = 31) : (st0_7 t).view.read (Elt F) (runAt m c t f8 f11).1.2.2.2
    = outT (outS (grid0.coords t) (xAt m c t) (wAt m c t) (scr2.view.read (Elt F) f11)) := by
  rw [run_t _ _ _ _ _ _ _ _ _ _ _ _ _ _ _ _ _ _ _ _ _ _ _ _ _ _ _ _ _ _ _ ((cond_last t).mpr h)]
  simp only [Memref.IsWhole.read_unread]; rfl
theorem runAt_idle (h : ¬ t.val = 31) : (runAt m c t f8 f11).1.2.2.2 = f8 :=
  run_t_idle _ _ _ _ _ _ _ _ _ _ _ _ _ _ _ _ _ _ _ _ _ _ _ _ _ _ _ _ _ _ _ (mt (cond_last t).mp h)
end

/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  rw [after0, after1, after2, after3, after4, after5, after6]
  unfold Dat.owesAt Pipeline.owesWithin Inv
  rw [show (dats m 0 c).owed t.castSucc = 0 from rfl, show (dats m 0 c).owed t.succ = 0 from rfl]
  iintro ⟨⟨⟨%f9, H9⟩, ⟨%f10, H10⟩, ⟨%f11, %hS, H11⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  iapply (runAt m c t ((hst7 t).unread ((dats m 0 c).before 7 t d7)) f11).2 ((hst5 t).unread ((dats m 0 c).before 5 t d5))
    ((hst6 t).unread ((dats m 0 c).before 6 t d6)) f9 f10 Set.univ _
  isplitl [H0]; · iapply owns_pt c (st0_0 t) (hst0 t) _; iexact H0
  isplitl [H1]; · iapply owns_pt c (st0_1 t) (hst1 t) _; iexact H1
  isplitl [H2]; · iapply owns_pt c (st0_2 t) (hst2 t) _; iexact H2
  isplitl [H3]; · iapply owns_pt c (st0_3 t) (hst3 t) _; iexact H3
  isplitl [H4]; · iapply owns_pt c (st0_4 t) (hst4 t) _; iexact H4
  isplitl [H5]; · iapply owns_pt c (st0_5 t) (hst5 t) _; iexact H5
  isplitl [H6]; · iapply owns_pt c (st0_6 t) (hst6 t) _; iexact H6
  isplitl [H7]; · iapply owns_pt c (st0_7 t) (hst7 t) _; iexact H7
  isplitl [H9]; · iexact H9
  isplitl [H10]; · iexact H10
  isplitl [H11]; · iexact H11
  iintro ⟨H0, H1, H2, H3, H4, H5, H6, H7, H9, H10, H11⟩
  isplitl [H9 H10 H11 Hg]
  · isplitl [H9]; · iexact H9
    isplitl [H10]; · iexact H10
    isplitl [H11]
    · iexists _; isplitr
      swap; · iexact H11
      ipureintro
      rw [runAt_s]
      exact filled_step m c t _ hS
    iexact Hg
  isplitl [HW]
  · iexists W; isplitr; · ipureintro; exact fun _ _ => Or.inl trivial
    iexact HW
  isplitl [H0]; · iapply pt_owns c (st0_0 t) (hst0 t) (Memref.IsWhole.read_unread _ _); iexact H0
  isplitl [H1]; · iapply pt_owns c (st0_1 t) (hst1 t) (Memref.IsWhole.read_unread _ _); iexact H1
  isplitl [H2]; · iapply pt_owns c (st0_2 t) (hst2 t) (Memref.IsWhole.read_unread _ _); iexact H2
  isplitl [H3]; · iapply pt_owns c (st0_3 t) (hst3 t) (Memref.IsWhole.read_unread _ _); iexact H3
  isplitl [H4]; · iapply pt_owns c (st0_4 t) (hst4 t) (Memref.IsWhole.read_unread _ _); iexact H4
  isplitl [H5]; · iapply pt_owns c (st0_5 t) (hst5 t) (runAt_y m c t _ _); iexact H5
  isplitl [H6]; · iapply pt_owns c (st0_6 t) (hst6 t) (runAt_c m c t _ _); iexact H6
  unfold post7
  by_cases h : t.val = 31
  · rw [if_pos h, after7]
    iapply pt_owns c (st0_7 t) (hst7 t) ((runAt_t m c t _ _ h).trans (outT_filled m c _ (by
      have := filled_step m c t _ hS
      rwa [h] at this)))
    iexact H7
  · rw [if_neg h, runAt_idle m c t _ _ h]
    iexists d7
    iapply pt_owns c (st0_7 t) (hst7 t) (Memref.IsWhole.read_unread _ _)
    iexact H7

/-- The body table's row at point `t`. -/
theorem defs₀_row (t : Fin cfg0.N) : defs₀ (F := F) .tc cfg0.body (cfg0.bodyArgs t (cfg0.slots t)) = bodyAt0 t := by
  unfold defs₀; rw [Defs.onTc_tc]

theorem idle7 : ∀ t : Fin cfg0.N, cfg0.idle 7 (cfg0.grid.coords t) = !decide (t.val = 31) := (by decide +kernel : ∀ t : Fin grid0.N, _)

/-- The launch's obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · exact .rfl
  unfold bodyPost post7
  by_cases h : t.val = 31
  · rw [if_pos h]
    have hi : idle0 7 (grid0.coords t) = false := (idle7 t).trans (by simp [h])
    simp only [hi]
    exact .rfl
  · rw [if_neg h]
    have hi : idle0 7 (grid0.coords t) = true := (idle7 t).trans (by simp [h])
    have hf : (cfg0.win 7).flush t = false := by
      rw [← Bool.not_eq_true, flush0_7]
      have := t.isLt; have := N_0
      have : t.val < grid0.N := t.isLt
      omega
    simp only [hi, hf]
    exact .rfl

/-! ## The run -/

theorem inv_in (c : Dev nD) : Pipeline.ΦA (U := UR sig nD τ) (Val := Elt F) spec0 c ⊢ (dats m 0 c).Φ 0 := by
  unfold Pipeline.ΦA
  rw [scopedRest0_eq, show (dats m 0 c).Φ 0 = Inv m c 0 from rfl]
  unfold Inv
  iintro ⟨⟨H9, H10, ⟨%f, H11⟩⟩, Hg⟩
  isplitl [H9]; · iexact H9
  isplitl [H10]; · iexact H10
  isplitl [H11]
  · iexists f; isplitr
    · ipureintro; intro l r h; omega
    iexact H11
  iexact Hg

theorem inv_out (c : Dev nD) : (dats m 0 c).Φ (Fin.last cfg0.N) ⊢ Pipeline.ΦA (U := UR sig nD τ) (Val := Elt F) spec0 c := by
  unfold Pipeline.ΦA
  rw [scopedRest0_eq, show (dats m 0 c).Φ (Fin.last cfg0.N) = Inv m c cfg0.N from rfl]
  unfold Inv
  iintro ⟨H9, H10, ⟨%f, -, H11⟩, Hg⟩
  isplitl [H9 H10 H11]
  · isplitl [H9]; · iexact H9
    isplitl [H10]; · iexact H10
    iexists f; iexact H11
  iexact Hg

set_option backward.isDefEq.respectTransparency.types false in
/-- The launch ends with every array as the data states, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (inv_in m) (inv_out m)
    (hQ' := fun _ h => h)

/-- The program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel.Hand

end
-- ==== Proof.KernelIdeal.Body.lean ====
/-
  The kernel's body, run once at symbolic operands. The body is one straight line of about 9900 operations which the
  printer cuts into parts; each part is a theorem of its own, composed along the body.

  What the body leaves in the buffers it writes are terms over what it reads: the five staged inputs, the scales'
  scratch (of which it replaces two lanes) and the scales' result buffer (which it stores at the last grid point only).
-/
module

public import proofs.«01_k».proof.Proof.Gen.KernelIdeal.Skeleton
public import Idealize.ShloMosaic.Lib.Tactic
public import Idealize.ShloMosaic.Lib.Pipeline.FrameBody

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- What the body leaves in the two blocks it stores at every point, in the scales' scratch and in the scales' result
    buffer, WITH the proof that from the eleven buffers held whole the body runs to its return, handing back the inputs
    as they were, those four buffers at the stated contents, and the other two scratch buffers at something. -/
noncomputable def bodyRun (c : Dev nD) (i : grid0.Coords)
    (M1 : Memref sig .tc .vmem S256x6144 .bf16) (h1 : M1.IsWhole) (M2 : Memref sig .tc .vmem S24x32x512 .i8) (h2 : M2.IsWhole)
    (M3 : Memref sig .tc .vmem S24x64x512 .i8) (h3 : M3.IsWhole) (M4 : Memref sig .tc .vmem S12x24x512 .i8) (h4 : M4.IsWhole)
    (M5 : Memref sig .tc .vmem S24x512 .i16) (h5 : M5.IsWhole) (M6 : Memref sig .tc .vmem S256x512 .bf16) (h6 : M6.IsWhole)
    (M7 : Memref sig .tc .vmem S256x512 .i8) (h7 : M7.IsWhole) (M8 : Memref sig .tc .vmem S64x256 .f32) (h8 : M8.IsWhole)
    (M9 : Memref sig .tc .vmem S6144x512 .bf16) (h9 : M9.IsWhole) (M10 : Memref sig .tc .vmem S16x24x512 .bf16) (h10 : M10.IsWhole)
    (M11 : Memref sig .tc .vmem S256x128 .f32) (h11 : M11.IsWhole)
    (f1 : Bf (F := F) c M1) (f2 : Bf (F := F) c M2) (f3 : Bf (F := F) c M3) (f4 : Bf (F := F) c M4) (f5 : Bf (F := F) c M5)
    (f8 : Bf (F := F) c M8) (f11 : Bf (F := F) c M11) :
    { W : Bf (F := F) c M6 × Bf (F := F) c M7 × Bf (F := F) c M11 × Bf (F := F) c M8 //
      ∀ (f6 : Bf (F := F) c M6) (f7 : Bf (F := F) c M7) (f9 : Bf (F := F) c M9) (f10 : Bf (F := F) c M10)
        (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8
          ∗ pt c M9 f9 ∗ pt c M10 f10 ∗ pt c M11 f11
          ∗ (iprop(pt c M1 f1 ∗ pt c M2 f2 ∗ pt c M3 f3 ∗ pt c M4 f4 ∗ pt c M5 f5 ∗ pt c M6 W.1 ∗ pt c M7 W.2.1
                ∗ pt c M8 W.2.2.2 ∗ (∃ f, pt c M9 f) ∗ (∃ f, pt c M10 f) ∗ pt c M11 W.2.2.1) -∗ Q ⟨⟩))
        ⊢ wp frame (wpE (defs₀ (F := F)) Variants.none c none) E
            (cc0_q3k_linear i M1 h1 M2 h2 M3 h3 M4 h4 M5 h5 M6 h6 M7 h7 M8 h8 M9 h9 M10 h10 M11 h11) Q } := by
  refine ⟨⟨?_, ?_, ?_, ?_⟩, fun f6 f7 f9 f10 E Q => ?run⟩
  case run =>
    iintro ⟨H1, H2, H3, H4, H5, H6, H7, H8, H9, H10, H11, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    iexact H11

end Cert.KernelIdeal.Hand

end
-- ==== Proof.KernelIdeal.Pieces.lean ====
/-
  What the body computes, as functions of what it reads. The body's 384 stores into the weights' scratch and its 16
  stores into the group scales' scratch are one store each, written at a number: store `k` of the weights is the rows
  `16 k … 16 k + 15`, the group `k % 16` of the block `k / 16`.

  The definitions follow the kernel's own operations, at any arithmetic `F`. That they are what the body stores is
  definitional.
-/
module

public import proofs.«01_k».proof.Proof.KernelIdeal.Body

@[expose] public section

set_option maxRecDepth 65536

noncomputable section

namespace Cert.KernelIdeal.Hand

open Cert.KernelIdeal Cert.KernelIdeal.Gen

open Idealize.ShloMosaic
open Idealize.ShloMosaic.TcCoe Idealize.ShloMosaic.Tactic
open Idealize.ShloMosaic.View (ld canon)

variable {F : FTy → Type} [FloatOps F]

/-! ## The rectangles -/

/-- Block `n` of the high bits. -/
def rectHm (n : Fin 24) : Rect S24x32x512 :=
  Rect.unit ![n.val, 0, 0] S1x32x512.size (by intro a; fin_cases a <;> simp [S1x32x512, S24x32x512, Shape.size] <;> omega)
/-- Half `h` of block `n` of the low bits. -/
def rectQs (n : Fin 24) (h : Fin 2) : Rect S24x64x512 :=
  Rect.unit ![n.val, 32 * h.val, 0] S1x32x512.size (by intro a; fin_cases a <;> simp [S1x32x512, S24x64x512, Shape.size] <;> omega)
/-- Byte `s` of the packed scales of every block. -/
def rectSc (s : Fin 12) : Rect S12x24x512 :=
  Rect.unit ![s.val, 0, 0] S1x24x512.size (by intro a; fin_cases a <;> simp [S1x24x512, S12x24x512, Shape.size] <;> omega)
/-- The scales of group `g`, of every block. -/
def rectG (g : Fin 16) : Rect S16x24x512 :=
  Rect.unit ![g.val, 0, 0] S1x24x512.size (by intro a; fin_cases a <;> simp [S1x24x512, S16x24x512, Shape.size] <;> omega)
/-- The scales of group `g` of block `n`. -/
def rectGn (g : Fin 16) (n : Fin 24) : Rect S16x24x512 :=
  Rect.unit ![g.val, n.val, 0] S1x1x512.size (by intro a; fin_cases a <;> simp [S1x1x512, S16x24x512, Shape.size] <;> omega)
/-- The sixteen rows of the weights that store `k` writes. -/
def rectW (k : Fin 384) : Rect S6144x512 :=
  Rect.unit ![16 * k.val, 0] S16x512.size (by intro a; fin_cases a <;> simp [S16x512, S6144x512, Shape.size] <;> omega)

/-! ## The group scales -/

/-- The six-bit scale of group `g` less 32: four low bits from byte `g % 8`, two high bits from byte `8 + g % 4`. -/
def sixBits (X4 : Vec F S12x24x512 .i8) (g : Fin 16) : IVec S24x512 32 :=
  subi
    (ori
      (andi (shrsi (extui 32 (shapeCast S24x512 (ld X4 (rectSc ⟨g.val % 8, by omega⟩)) shapeCasts_S1x24x512_S24x512) natLt_8_32)
        (broadcast S24x512 (BitVec.ofNat 32 (4 * (g.val / 8))))) (broadcast S24x512 15#32))
      (shli
        (andi (shrsi (extui 32 (shapeCast S24x512 (ld X4 (rectSc ⟨8 + g.val % 4, by omega⟩)) shapeCasts_S1x24x512_S24x512) natLt_8_32)
          (broadcast S24x512 (BitVec.ofNat 32 (2 * (g.val / 4))))) (broadcast S24x512 3#32))
        (broadcast S24x512 4#32)))
    (broadcast S24x512 32#32)

/-- What the body stores as the scales of group `g`: a thirty-second of `d` times the six-bit scale, rounded. -/
def gPay (X4 : Vec F S12x24x512 .i8) (X5 : Vec F S24x512 .i16) (g : Fin 16) : FVec F S1x24x512 .bf16 :=
  shapeCast S1x24x512
    (truncf .bf16 (mulf (k0_pay3 (ld X5 (Rect.unit ![0, 0] S24x512.size inb_S24x512_S24x512_0_0))) (sitofp .f32 (sixBits (F := F) X4 g))) bitsLt_bf16_f32)
    shapeCasts_S24x512_S1x24x512

/-- The first `k` stores into the group scales' scratch, latest first. -/
def gPieces (X4 : Vec F S12x24x512 .i8) (X5 : Vec F S24x512 .i16) : (k : Nat) → k ≤ 16 → List (View.Piece (Elt F) S16x24x512 .bf16) :=
  Nat.rec (fun _ => []) fun k L h => ⟨rectG ⟨k, h⟩, gPay X4 X5 ⟨k, h⟩⟩ :: L (Nat.le_of_succ_le h)

/-! ## The weights -/

/-- Four rows' high bits in a word, inverted. -/
def hmWords (X2 : Vec F S24x32x512 .i8) (n : Fin 24) : IVec S8x512 32 :=
  xori (bitcast S8x512 32 (shapeCast S32x512 (ld X2 (rectHm n)) shapeCasts_S1x32x512_S32x512) bitcasts_S32x512_w8_S8x512_w32)
    (constantI S8x512 32 4294967295#32)
/-- Four rows' low bits in a word. -/
def qsWords (X3 : Vec F S24x64x512 .i8) (n : Fin 24) (h : Fin 2) : IVec S8x512 32 :=
  bitcast S8x512 32 (shapeCast S32x512 (ld X3 (rectQs n h)) shapeCasts_S1x32x512_S32x512) bitcasts_S32x512_w8_S8x512_w32

/-- The low bits of field `j`, moved to bits 5 and 6 of every byte (other bits are masked off afterwards). -/
def lowShift (v : IVec S8x512 32) (j : Nat) : IVec S8x512 32 :=
  match j with
  | 0 => shli v (broadcast S8x512 5#32)
  | 1 => shli v (broadcast S8x512 3#32)
  | 2 => shli v (broadcast S8x512 1#32)
  | _ => shrui v (broadcast S8x512 1#32)
/-- The high bit of field `f`, moved to bit 7 of every byte. -/
def highShift (v : IVec S8x512 32) (f : Nat) : IVec S8x512 32 :=
  match f with
  | 7 => v
  | f => shli v (broadcast S8x512 (BitVec.ofNat 32 (7 - f)))

/-- The codes of field `f` of block `n`, thirty-two times over: as signed bytes, then as numbers. -/
def fieldCodes (X2 : Vec F S24x32x512 .i8) (X3 : Vec F S24x64x512 .i8) (n : Fin 24) (f : Fin 8) : FVec F S32x512 .bf16 :=
  sitofp .bf16
    (bitcast S32x512 8
      (ori (andi (lowShift (qsWords X3 n ⟨f.val / 4, by omega⟩) (f.val % 4)) (broadcast S8x512 1616928864#32))
        (andi (highShift (hmWords X2 n) f.val) (broadcast S8x512 2155905152#32)))
      bitcasts_S8x512_w32_S32x512_w8)

theorem slices_half (t : Fin 2) : S32x512.Slices ![16 * t.val, 0] S16x512 := by
  revert t; decide

/-- What store `k` writes into the weights: the codes of its sixteen rows, each times its column's group scale. -/
def wPay (X2 : Vec F S24x32x512 .i8) (X3 : Vec F S24x64x512 .i8) (G : Vec F S16x24x512 .bf16) (k : Fin 384) : FVec F S16x512 .bf16 :=
  shapeCast S16x512
    (mulf
      (extractStridedSlice S16x512 ![16 * (k.val % 2), 0]
        (fieldCodes X2 X3 ⟨k.val / 16, by omega⟩ ⟨k.val / 2 % 8, by omega⟩) (slices_half ⟨k.val % 2, by omega⟩))
      (broadcastTo S16x512
        (shapeCast S1x512
          (shapeCast S1x512 (ld G (rectGn ⟨k.val % 16, by omega⟩ ⟨k.val / 16, by omega⟩)) shapeCasts_S1x1x512_S1x512)
          shapeCasts_S1x512_S1x512)
        broadcasts_S1x512_S16x512))
    shapeCasts_S16x512_S16x512

/-- The first `k` stores into the weights' scratch, latest first. -/
def wPieces (X2 : Vec F S24x32x512 .i8) (X3 : Vec F S24x64x512 .i8) (G : Vec F S16x24x512 .bf16) :
    (k : Nat) → k ≤ 384 → List (View.Piece (Elt F) S6144x512 .bf16) :=
  Nat.rec (fun _ => []) fun k L h => ⟨rectW ⟨k, h⟩, wPay X2 X3 G ⟨k, h⟩⟩ :: L (Nat.le_of_succ_le h)

/-! ## They are what the body stores -/

section
variable (c : Dev nD) (M2 : Memref sig .tc .vmem S24x32x512 .i8) (M3 : Memref sig .tc .vmem S24x64x512 .i8)
  (M4 : Memref sig .tc .vmem S12x24x512 .i8) (M5 : Memref sig .tc .vmem S24x512 .i16)
  (M10 : Memref sig .tc .vmem S16x24x512 .bf16)
  (f2 : Bf (F := F) c M2) (f3 : Bf (F := F) c M3) (f4 : Bf (F := F) c M4) (f5 : Bf (F := F) c M5)

theorem gPieces_eq : bodyRun.sl.H10_16 c M4 M5 f4 f5
    = gPieces (M4.view.read (Elt F) f4) (M5.view.read (Elt F) f5) 16 (Nat.le_refl _) := by
  sl_kernel_rfl

theorem wPieces_eq : bodyRun.sl.H9_384 c M2 M3 M4 M5 M10 f2 f3 f4 f5
    = wPieces (M2.view.read (Elt F) f2) (M3.view.read (Elt F) f3)
        (M10.view.read (Elt F) (M10.view.writes (Elt F) M10.view.junk (bodyRun.sl.H10_16 c M4 M5 f4 f5))) 384 (Nat.le_refl _) := by
  sl_kernel_rfl

end

end Cert.KernelIdeal.Hand

end
-- ==== Proof.KernelIdeal.Step.lean ====
/-
  One grid point: what the body leaves in each buffer, as a function of what it reads there and of nothing else (not of
  the staging buffers it runs on, not of what it overwrites).
-/
module

public import proofs.«01_k».proof.Proof.KernelIdeal.Pieces
public import Idealize.ShloMosaic.Lib.Pipeline.Value

@[expose] public section

set_option maxRecDepth 65536

noncomputable section

namespace Cert.KernelIdeal.Hand

open Cert.KernelIdeal Cert.KernelIdeal.Gen

open Idealize.ShloMosaic
open Idealize.ShloMosaic.TcCoe Idealize.ShloMosaic.Tactic
open Idealize.ShloMosaic.View (ld canon)

variable {F : FTy → Type} [FloatOps F]

/-- The weights of the point's 512 columns. -/
def weights (X2 : Vec F S24x32x512 .i8) (X3 : Vec F S24x64x512 .i8) (X4 : Vec F S12x24x512 .i8) (X5 : Vec F S24x512 .i16) :
    Vec F S6144x512 .bf16 :=
  canon (wPieces X2 X3 (canon (gPieces X4 X5 16 (Nat.le_refl _))) 384 (Nat.le_refl _))

/-- The rows' whole rectangle, of the activations. -/
abbrev allX : Rect S256x6144 := Rect.unit ![0, 0] S256x6144.size inb_S256x6144_S256x6144_0_0
/-- The whole rectangle of the weights. -/
abbrev allW : Rect S6144x512 := Rect.unit ![0, 0] S6144x512.size inb_S6144x512_S6144x512_0_0
/-- The whole rectangle of the scales' scratch. -/
abbrev allS : Rect S256x128 := Rect.unit ![0, 0] S256x128.size inb_S256x128_S256x128_0_0

/-- The scales of the point's first 256 columns, a row each. -/
def scaleA (X : Vec F S256x6144 .bf16) (W : Vec F S6144x512 .bf16) : FVec F S256x1 .f32 :=
  k0_pay820 (k0_pay817 X W) (k0_pay818 X W) k0_pay819
/-- The scales of its last 256 columns. -/
def scaleB (X : Vec F S256x6144 .bf16) (W : Vec F S6144x512 .bf16) : FVec F S256x1 .f32 :=
  k0_pay824 (k0_pay813 X W)

/-- The product, rounded. -/
def outY (X1 : Vec F S256x6144 .bf16) (W : Vec F S6144x512 .bf16) : Vec F S256x512 .bf16 :=
  canon [⟨Rect.unit ![0, 0] S256x512.size inb_S256x512_S256x512_0_0, k0_pay814 (ld X1 allX) (ld W allW)⟩]

/-- The product's codes: a scale for each row of either half. -/
def outC (X1 : Vec F S256x6144 .bf16) (W : Vec F S6144x512 .bf16) : Vec F S256x512 .i8 :=
  canon [⟨Rect.unit ![0, 256] S256x256.size inb_S256x512_S256x256_0_256,
      k0_pay826 (k0_pay825 (k0_pay813 (ld X1 allX) (ld W allW))) 4294967169#32 127#32⟩,
    ⟨Rect.unit ![0, 0] S256x256.size inb_S256x512_S256x256_0_0,
      k0_pay821 (k0_pay815 (ld X1 allX) (ld W allW)) (k0_pay817 (ld X1 allX) (ld W allW)) (k0_pay818 (ld X1 allX) (ld W allW)) k0_pay819⟩]

/-- The scales' scratch: as it was, but for the two lanes of the point. -/
def outS (i : grid0.Coords) (X1 : Vec F S256x6144 .bf16) (W : Vec F S6144x512 .bf16) (S : Vec F S256x128 .f32) : Vec F S256x128 .f32 :=
  let L : List (View.Piece (Elt F) S256x128 .f32) :=
    [⟨allS, k0_pay822 (BitVec.ofNat 32 (i 0).val) (iota .tc S256x128 32 [1] iota_S256x128_d1_w32) (k0_pay817 (ld X1 allX) (ld W allW))
      (k0_pay818 (ld X1 allX) (ld W allW)) k0_pay819 (ld S allS)⟩]
  canon (⟨allS, k0_pay1 (iota .tc S256x128 32 [1] iota_S256x128_d1_w32) (scaleB (ld X1 allX) (ld W allW)) (k0_pay827 (BitVec.ofNat 32 (i 0).val))
    (ld (canon L) allS)⟩ :: L)

/-- The scales' result: the scratch's first 64 lanes, transposed. -/
def outT (S : Vec F S256x128 .f32) : Vec F S64x256 .f32 :=
  canon [⟨Rect.unit ![0, 0] S64x256.size inb_S64x256_S64x256_0_0, k0_pay2 (ld S allS)⟩]

section
variable (c : Dev nD) (i : grid0.Coords)
    (M1 : Memref sig .tc .vmem S256x6144 .bf16) (h1 : M1.IsWhole) (M2 : Memref sig .tc .vmem S24x32x512 .i8) (h2 : M2.IsWhole)
    (M3 : Memref sig .tc .vmem S24x64x512 .i8) (h3 : M3.IsWhole) (M4 : Memref sig .tc .vmem S12x24x512 .i8) (h4 : M4.IsWhole)
    (M5 : Memref sig .tc .vmem S24x512 .i16) (h5 : M5.IsWhole) (M6 : Memref sig .tc .vmem S256x512 .bf16) (h6 : M6.IsWhole)
    (M7 : Memref sig .tc .vmem S256x512 .i8) (h7 : M7.IsWhole) (M8 : Memref sig .tc .vmem S64x256 .f32) (h8 : M8.IsWhole)
    (M9 : Memref sig .tc .vmem S6144x512 .bf16) (h9 : M9.IsWhole) (M10 : Memref sig .tc .vmem S16x24x512 .bf16) (h10 : M10.IsWhole)
    (M11 : Memref sig .tc .vmem S256x128 .f32) (h11 : M11.IsWhole)
    (f1 : Bf (F := F) c M1) (f2 : Bf (F := F) c M2) (f3 : Bf (F := F) c M3) (f4 : Bf (F := F) c M4) (f5 : Bf (F := F) c M5)
    (f8 : Bf (F := F) c M8) (f11 : Bf (F := F) c M11)

/-- The weights the body's product reads are `weights`. -/
theorem read_weights : bodyRun.sl.v6195 c M2 M3 M4 M5 M9 M10 f2 f3 f4 f5
    = ld (weights (M2.view.read (Elt F) f2) (M3.view.read (Elt F) f3) (M4.view.read (Elt F) f4) (M5.view.read (Elt F) f5)) allW := by
  unfold bodyRun.sl.v6195 weights
  rw [View.readCov_eq_canon', wPieces_eq, View.read_writes_junk_eq_canon, gPieces_eq]

/-- The contents the run leaves: writes over what was there. -/
theorem run_eq : (bodyRun c i M1 h1 M2 h2 M3 h3 M4 h4 M5 h5 M6 h6 M7 h7 M8 h8 M9 h9 M10 h10 M11 h11 f1 f2 f3 f4 f5 f8 f11).1
    = (M6.view.writes (Elt F) M6.view.junk (bodyRun.sl.H6_1 c M1 M2 M3 M4 M5 M9 M10 f1 f2 f3 f4 f5),
       M7.view.writes (Elt F) M7.view.junk (bodyRun.sl.H7_2 c M1 M2 M3 M4 M5 M9 M10 f1 f2 f3 f4 f5),
       M11.view.writes (Elt F) M11.view.junk (bodyRun.sl.H11_2 c i M1 M2 M3 M4 M5 M9 M10 M11 f1 f2 f3 f4 f5 f11),
       if k0_cond1 i = 1#1 then M8.view.writes (Elt F) f8 [⟨Rect.unit ![0, 0] S64x256.size inb_S64x256_S64x256_0_0,
         k0_pay2 (bodyRun.sl.v6271 c i M1 M2 M3 M4 M5 M9 M10 M11 f1 f2 f3 f4 f5 f11)⟩] else f8) := by
  sl_kernel_rfl

/-- The rounded product's block. -/
theorem run_y : M6.view.read (Elt F)
      (bodyRun c i M1 h1 M2 h2 M3 h3 M4 h4 M5 h5 M6 h6 M7 h7 M8 h8 M9 h9 M10 h10 M11 h11 f1 f2 f3 f4 f5 f8 f11).1.1
    = outY (M1.view.read (Elt F) f1) (weights (M2.view.read (Elt F) f2) (M3.view.read (Elt F) f3) (M4.view.read (Elt F) f4) (M5.view.read (Elt F) f5)) := by
  rw [run_eq, View.read_writes_junk_eq_canon]
  unfold bodyRun.sl.H6_1
  rw [read_weights]; rfl

/-- The codes' block. -/
theorem run_c : M7.view.read (Elt F)
      (bodyRun c i M1 h1 M2 h2 M3 h3 M4 h4 M5 h5 M6 h6 M7 h7 M8 h8 M9 h9 M10 h10 M11 h11 f1 f2 f3 f4 f5 f8 f11).1.2.1
    = outC (M1.view.read (Elt F) f1) (weights (M2.view.read (Elt F) f2) (M3.view.read (Elt F) f3) (M4.view.read (Elt F) f4) (M5.view.read (Elt F) f5)) := by
  rw [run_eq, View.read_writes_junk_eq_canon]
  unfold bodyRun.sl.H7_2 bodyRun.sl.r_291 bodyRun.sl.r_287 bodyRun.sl.r_288 bodyRun.sl.r_289 bodyRun.sl.r_286
  rw [read_weights]; rfl

theorem pieces_S : bodyRun.sl.H11_1 c i M1 M2 M3 M4 M5 M9 M10 M11 f1 f2 f3 f4 f5 f11
    = [⟨allS, k0_pay822 (BitVec.ofNat 32 (i 0).val) (iota .tc S256x128 32 [1] iota_S256x128_d1_w32) (k0_pay817 (ld (M1.view.read (Elt F) f1) allX) (ld (weights (M2.view.read (Elt F) f2) (M3.view.read (Elt F) f3) (M4.view.read (Elt F) f4) (M5.view.read (Elt F) f5)) allW))
      (k0_pay818 (ld (M1.view.read (Elt F) f1) allX) (ld (weights (M2.view.read (Elt F) f2) (M3.view.read (Elt F) f3) (M4.view.read (Elt F) f4) (M5.view.read (Elt F) f5)) allW)) k0_pay819 (ld (M11.view.read (Elt F) f11) allS)⟩] := by
  unfold bodyRun.sl.H11_1 bodyRun.sl.r_288 bodyRun.sl.r_289
  rw [read_weights]; rfl

theorem canon_S : canon (bodyRun.sl.H11_2 c i M1 M2 M3 M4 M5 M9 M10 M11 f1 f2 f3 f4 f5 f11)
    = outS i (M1.view.read (Elt F) f1) (weights (M2.view.read (Elt F) f2) (M3.view.read (Elt F) f3) (M4.view.read (Elt F) f4) (M5.view.read (Elt F) f5)) (M11.view.read (Elt F) f11) := by
  unfold bodyRun.sl.H11_2 bodyRun.sl.v6261 bodyRun.sl.r_290 bodyRun.sl.r_286
  rw [View.readCov_eq_canon', pieces_S, read_weights]; rfl

/-- The scales' scratch. -/
theorem run_s : M11.view.read (Elt F)
      (bodyRun c i M1 h1 M2 h2 M3 h3 M4 h4 M5 h5 M6 h6 M7 h7 M8 h8 M9 h9 M10 h10 M11 h11 f1 f2 f3 f4 f5 f8 f11).1.2.2.1
    = outS i (M1.view.read (Elt F) f1) (weights (M2.view.read (Elt F) f2) (M3.view.read (Elt F) f3) (M4.view.read (Elt F) f4) (M5.view.read (Elt F) f5)) (M11.view.read (Elt F) f11) := by
  rw [run_eq, View.read_writes_junk_eq_canon, canon_S]

/-- At the last point the scales' result is stored, -/
theorem run_t (hc : k0_cond1 i = 1#1) : M8.view.read (Elt F)
      (bodyRun c i M1 h1 M2 h2 M3 h3 M4 h4 M5 h5 M6 h6 M7 h7 M8 h8 M9 h9 M10 h10 M11 h11 f1 f2 f3 f4 f5 f8 f11).1.2.2.2
    = outT (outS i (M1.view.read (Elt F) f1) (weights (M2.view.read (Elt F) f2) (M3.view.read (Elt F) f3) (M4.view.read (Elt F) f4) (M5.view.read (Elt F) f5)) (M11.view.read (Elt F) f11)) := by
  rw [run_eq]
  dsimp only
  rw [if_pos hc, View.read_writes_eq_canon]
  · unfold bodyRun.sl.v6271
    rw [View.readCov_eq_canon', canon_S]; rfl
  · intro y
    exact ⟨_, List.mem_singleton_self _, View.mem_set_unit_zero (by funext a; fin_cases a <;> rfl) inb_S64x256_S64x256_0_0 y⟩

/-- and at every other it is left as it was. -/
theorem run_t_idle (hc : ¬ k0_cond1 i = 1#1) :
    (bodyRun c i M1 h1 M2 h2 M3 h3 M4 h4 M5 h5 M6 h6 M7 h7 M8 h8 M9 h9 M10 h10 M11 h11 f1 f2 f3 f4 f5 f8 f11).1.2.2.2 = f8 := by
  rw [run_eq]
  dsimp only
  rw [if_neg hc]

end

end Cert.KernelIdeal.Hand

end
-- ==== Proof.KernelIdeal.Lanes.lean ====
/-
  The scales' scratch lane by lane: a point writes the two lanes of its own number, and the scales' result is the lanes
  as rows.
-/
module

public import proofs.«01_k».proof.Proof.KernelIdeal.Step
public import Idealize.ShloMosaic.Lib.Pointwise
public import Idealize.ShloMosaic.Lib.Pipeline.ValueKit
public import Idealize.ShloMosaic.Lib.WordCmp

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.ShloMosaic.View (ld canon)

variable {F : FTy → Type} [FloatOps F]

theorem ld_allX (X : Vec F S256x6144 .bf16) : (ld X allX : Vec F S256x6144 .bf16) = X := View.ld_unit_lit _ X (by decide)
theorem ld_allW (X : Vec F S6144x512 .bf16) : (ld X allW : Vec F S6144x512 .bf16) = X := View.ld_unit_lit _ X (by decide)
theorem ld_allS (X : Vec F S256x128 .f32) : (ld X allS : Vec F S256x128 .f32) = X := View.ld_unit_lit _ X (by decide)
theorem canon_allS (w : Vec F S256x128 .f32) (L : List (View.Piece (Elt F) S256x128 .f32)) : canon (⟨allS, w⟩ :: L) = w :=
  View.canon_cons_unit_lit _ w L (by decide)

theorem lane_word (l i e : Nat) (hl : l < 128) (hi : i < 32) (he : e < 2) :
    (BitVec.ofNat 32 l = BitVec.ofNat 32 i * 2#32 + BitVec.ofNat 32 e) ↔ l = 2 * i + e := by
  rw [← BitVec.toNat_inj]
  simp only [BitVec.toNat_add, BitVec.toNat_mul, BitVec.toNat_ofNat]
  omega

/-- The scratch after point `i`: lane `2 i` is the first half's scales, lane `2 i + 1` the second half's, and every other
    lane is as it was. -/
theorem outS_apply (i : grid0.Coords) (X1 : Vec F S256x6144 .bf16) (W : Vec F S6144x512 .bf16) (S : Vec F S256x128 .f32)
    (r : Fin 256) (l : Fin 128) : outS i X1 W S (ix2 r l)
      = if l.val = 2 * (i 0).val + 1 then scaleB X1 W (ix2 r 0)
        else if l.val = 2 * (i 0).val then scaleA X1 W (ix2 r 0) else S (ix2 r l) := by
  have hi : (i 0).val < 32 := (i 0).isLt
  have hl : l.val < 128 := l.isLt
  unfold outS
  simp only [canon_allS, ld_allS, ld_allX, ld_allW]
  generalize scaleB X1 W = b
  have ha : k0_pay820 (k0_pay817 X1 W) (k0_pay818 X1 W) k0_pay819 = scaleA X1 W := rfl
  generalize scaleA X1 W = a at ha ⊢
  have e1 := lane_word l.val (i 0).val 1 hl hi (by decide)
  have e0 := lane_word l.val (i 0).val 0 hl hi (by decide)
  pointwise [k0_pay1, k0_pay822, k0_pay827]
  rw [ha]
  unfold Scalar.select IntOp.cmpi Scalar.addi Scalar.muli IntOp.addi IntOp.muli
  by_cases h1 : l.val = 2 * (i 0).val + 1
  · rw [if_pos h1, e1.mpr h1]; simp
  · have n1 := mt e1.mp h1
    rw [if_neg h1]
    by_cases h0 : l.val = 2 * (i 0).val
    · rw [if_pos h0]
      have p0 := e0.mpr h0
      rw [beq_eq_false_iff_ne.mpr n1, beq_iff_eq.mpr p0]; simp
    · rw [if_neg h0]
      have n0 := mt e0.mp h0
      simp only [beq_eq_false_iff_ne.mpr n1, beq_eq_false_iff_ne.mpr n0]; simp

theorem outT_apply (S : Vec F S256x128 .f32) (l : Fin 64) (r : Fin 256) :
    outT S (ix2 l r) = S (ix2 r ⟨l.val, by omega⟩) := by
  unfold outT
  rw [View.canon_cons_unit_lit inb_S64x256_S64x256_0_0 _ _ (by decide), ld_allS]
  pointwise [k0_pay2]

end Cert.KernelIdeal.Hand

end
-- ==== Proof.KernelIdeal.Frame.lean ====
/-
  The launch: what every grid point leaves in each window's buffer, what the scales' scratch holds before each point, and
  the run that follows — it ends, nothing faults, the arguments are unchanged, and every array is as stated.
-/
module

public import proofs.«01_k».proof.Proof.KernelIdeal.Lanes
public import proofs.«01_k».proof.Proof.Gen.KernelIdeal.Frame

@[expose] public section

set_option maxRecDepth 16384

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point computes -/

/-- The activations, as staged at point `t`. -/
def xAt (c : Dev nD) (t : Fin cfg0.N) : Vec F S256x6144 .bf16 := iblk m c 0 t
/-- The weights of point `t`'s 512 columns. -/
def wAt (c : Dev nD) (t : Fin cfg0.N) : Vec F S6144x512 .bf16 := weights (iblk m c 1 t) (iblk m c 2 t) (iblk m c 3 t) (iblk m c 4 t)
/-- The scale of row `r` for the `l`-th run of 256 columns: point `l / 2` computes it, for its first half or its second. -/
def scaleAt (c : Dev nD) (l : Fin 64) (r : Fin 256) : Elt F .f32 :=
  if l.val % 2 = 1 then scaleB (xAt m c ⟨l.val / 2, by have := l.isLt; have := N_0; show _ < grid0.N; omega⟩) (wAt m c ⟨l.val / 2, by have := l.isLt; have := N_0; show _ < grid0.N; omega⟩) (ix2 r 0)
  else scaleA (xAt m c ⟨l.val / 2, by have := l.isLt; have := N_0; show _ < grid0.N; omega⟩) (wAt m c ⟨l.val / 2, by have := l.isLt; have := N_0; show _ < grid0.N; omega⟩) (ix2 r 0)

/-- The scales' scratch holds the scales of the runs below `2 n`, a lane each. -/
def Filled (c : Dev nD) (n : Nat) (S : Vec F S256x128 .f32) : Prop :=
  ∀ (l : Fin 64) (r : Fin 256), l.val < 2 * n → S (ix2 r ⟨l.val, by have := l.isLt; omega⟩) = scaleAt m c l r

theorem coords_val : ∀ t : Fin cfg0.N, ((grid0.coords t) 0).val = t.val := (by decide +kernel : ∀ t : Fin grid0.N, _)
theorem cond_last : ∀ t : Fin cfg0.N, k0_cond1 (grid0.coords t) = 1#1 ↔ t.val = 31 := (by decide +kernel : ∀ t : Fin grid0.N, _)

/-- A point fills the next two lanes. -/
theorem filled_step (c : Dev nD) (t : Fin cfg0.N) (S : Vec F S256x128 .f32) (h : Filled m c t.val S) :
    Filled m c (t.val + 1) (outS (grid0.coords t) (xAt m c t) (wAt m c t) S) := by
  intro l r hl
  rw [outS_apply, coords_val]
  by_cases h1 : l.val = 2 * t.val + 1
  · rw [if_pos h1]; unfold scaleAt
    rw [if_pos (by omega)]
    rw [show (⟨l.val / 2, _⟩ : Fin cfg0.N) = t from Fin.ext (show l.val / 2 = t.val by omega)]
  · rw [if_neg h1]
    by_cases h0 : l.val = 2 * t.val
    · rw [if_pos h0]; unfold scaleAt
      rw [if_neg (by omega)]
      rw [show (⟨l.val / 2, _⟩ : Fin cfg0.N) = t from Fin.ext (show l.val / 2 = t.val by omega)]
    · rw [if_neg h0]
      exact h l r (by omega)

/-- The scales' result: run by run, a row each. -/
def scaleRows (c : Dev nD) : Vec F S64x256 .f32 := fun i => scaleAt m c (i 0) (i 1)

theorem outT_filled (c : Dev nD) (S : Vec F S256x128 .f32) (h : Filled m c 32 S) : outT S = scaleRows m c := by
  funext i
  obtain ⟨l, r, rfl⟩ : ∃ (l : Fin 64) (r : Fin 256), i = ix2 l r := ⟨i 0, i 1, eq_ix2 _⟩
  rw [outT_apply]
  exact h l r (by have := l.isLt; omega)

/-! ## The proof data -/

abbrev scr0 : Memref sig .tc .vmem S6144x512 .bf16 := Memref.whole cc0_scratch0
abbrev scr1 : Memref sig .tc .vmem S16x24x512 .bf16 := Memref.whole cc0_scratch1
abbrev scr2 : Memref sig .tc .vmem S256x128 .f32 := Memref.whole cc0_scratch2

/-- Before point `n`: the weights' scratch and the factors' scratch at anything, the scales' scratch with the lanes below
    `2 n` filled, and the core's random register at anything. -/
def Inv (c : Dev nD) (n : Nat) : sProp 𝕄 :=
  iprop((∃ f, pt c scr0 f) ∗ (∃ f, pt c scr1 f) ∗ (∃ f, ⌜Filled m c n (scr2.view.read (Elt F) f)⌝ ∗ pt c scr2 f) ∗ ∃ r, prngReg c r)

/-- What the launch leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY (xAt m c t) (wAt m c t)
    | ⟨6, _⟩ => outC (xAt m c t) (wAt m c t)
    | ⟨7, _⟩ => scaleRows m c
  Φ t := Inv m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outY (xAt m c t) (wAt m c t) := by dsimp only [dats]
theorem after6 (c : Dev nD) (t : Fin cfg0.N) : (dats m 0 c).after 6 t = outC (xAt m c t) (wAt m c t) := by dsimp only [dats]
theorem after7 (c : Dev nD) (t : Fin cfg0.N) : (dats m 0 c).after 7 t = scaleRows m c := by dsimp only [dats]

/-! ## The body at a point -/

theorem owns_pt (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns pt
  iintro ⟨%f, %hf, H⟩
  obtain rfl := h.eq_unread hf
  rw [h.set_eq_univ]
  iexact H

theorem pt_owns (c : Dev nD) {sp : Space} {S : Shape} {e : EltTy} (M : Memref sig .tc sp S e) (h : M.IsWhole) {f : Bf (F := F) c M}
    {X : S.Idx → Elt F e} (hx : M.view.read (Elt F) f = X) : pt c M f ⊢ (owns (c : Thread nD τ) M fullShare X : sProp 𝕄) := by
  unfold owns pt
  iintro H
  iexists f; isplitr; · ipureintro; exact hx
  rw [h.set_eq_univ]
  iexact H

abbrev hst0 (t : Fin cfg0.N) : (st0_0 t).IsWhole := hstage0_0 ((cfg0.slots t 0).cast nbuf0_0)
abbrev hst1 (t : Fin cfg0.N) : (st0_1 t).IsWhole := hstage0_1 ((cfg0.slots t 1).cast nbuf0_1)
abbrev hst2 (t : Fin cfg0.N) : (st0_2 t).IsWhole := hstage0_2 ((cfg0.slots t 2).cast nbuf0_2)
abbrev hst3 (t : Fin cfg0.N) : (st0_3 t).IsWhole := hstage0_3 ((cfg0.slots t 3).cast nbuf0_3)
abbrev hst4 (t : Fin cfg0.N) : (st0_4 t).IsWhole := hstage0_4 ((cfg0.slots t 4).cast nbuf0_4)
abbrev hst5 (t : Fin cfg0.N) : (st0_5 t).IsWhole := hstage0_5 ((cfg0.slots t 5).cast nbuf0_5)
abbrev hst6 (t : Fin cfg0.N) : (st0_6 t).IsWhole := hstage0_6 ((cfg0.slots t 6).cast nbuf0_6)
abbrev hst7 (t : Fin cfg0.N) : (st0_7 t).IsWhole := hstage0_7 ((cfg0.slots t 7).cast nbuf0_7)

/-- The body's precondition at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- The scales' result buffer after point `t`: as found, but the scales at the last point. -/
def post7 (c : Dev nD) (t : Fin cfg0.N) : sProp 𝕄 :=
  if t.val = 31 then owns (c : Thread nD τ) (st0_7 t) fullShare ((dats m 0 c).after 7 t)
  else iprop(∃ d, owns (c : Thread nD τ) (st0_7 t) fullShare ((dats m 0 c).before 7 t d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ post7 m c t)

section
variable (c : Dev nD) (t : Fin cfg0.N)
  (f8 : Bf (F := F) c (st0_7 t)) (f11 : Bf (F := F) c scr2)

/-- The body's run at point `t` on the staged blocks. -/
abbrev runAt := bodyRun c (grid0.coords t) (st0_0 t) (hst0 t) (st0_1 t) (hst1 t) (st0_2 t) (hst2 t) (st0_3 t) (hst3 t) (st0_4 t) (hst4 t)
  (st0_5 t) (hst5 t) (st0_6 t) (hst6 t) (st0_7 t) (hst7 t) scr0 (Memref.isWhole_whole _) scr1 (Memref.isWhole_whole _) scr2 (Memref.isWhole_whole _)
  ((hst0 t).unread (iblk m c 0 t)) ((hst1 t).unread (iblk m c 1 t)) ((hst2 t).unread (iblk m c 2 t)) ((hst3 t).unread (iblk m c 3 t))
  ((hst4 t).unread (iblk m c 4 t)) f8 f11

theorem runAt_y : (st0_5 t).view.read (Elt F) (runAt m c t f8 f11).1.1 = outY (xAt m c t) (wAt m c t) := by
  rw [run_y]; simp only [Memref.IsWhole.read_unread]; rfl
theorem runAt_c : (st0_6 t).view.read (Elt F) (runAt m c t f8 f11).1.2.1 = outC (xAt m c t) (wAt m c t) := by
  rw [run_c]; simp only [Memref.IsWhole.read_unread]; rfl
theorem runAt_s : scr2.view.read (Elt F) (runAt m c t f8 f11).1.2.2.1
    = outS (grid0.coords t) (xAt m c t) (wAt m c t) (scr2.view.read (Elt F) f11) := by
  rw [run_s]; simp only [Memref.IsWhole.read_unread]; rfl
theorem runAt_t (h : t.val = 31) : (st0_7 t).view.read (Elt F) (runAt m c t f8 f11).1.2.2.2
    = outT (outS (grid0.coords t) (xAt m c t) (wAt m c t) (scr2.view.read (Elt F) f11)) := by
  rw [run_t _ _ _ _ _ _ _ _ _ _ _ _ _ _ _ _ _ _ _ _ _ _ _ _ _ _ _ _ _ _ _ ((cond_last t).mpr h)]
  simp only [Memref.IsWhole.read_unread]; rfl
theorem runAt_idle (h : ¬ t.val = 31) : (runAt m c t f8 f11).1.2.2.2 = f8 :=
  run_t_idle _ _ _ _ _ _ _ _ _ _ _ _ _ _ _ _ _ _ _ _ _ _ _ _ _ _ _ _ _ _ _ (mt (cond_last t).mp h)
end

/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Inv m c t.val from rfl, show (dats m 0 c).Φ t.succ = Inv m c (t.val + 1) from rfl]
  rw [after0, after1, after2, after3, after4, after5, after6]
  unfold Dat.owesAt Pipeline.owesWithin Inv
  rw [show (dats m 0 c).owed t.castSucc = 0 from rfl, show (dats m 0 c).owed t.succ = 0 from rfl]
  iintro ⟨⟨⟨%f9, H9⟩, ⟨%f10, H10⟩, ⟨%f11, %hS, H11⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c)]
  iapply (runAt m c t ((hst7 t).unread ((dats m 0 c).before 7 t d7)) f11).2 ((hst5 t).unread ((dats m 0 c).before 5 t d5))
    ((hst6 t).unread ((dats m 0 c).before 6 t d6)) f9 f10 Set.univ _
  isplitl [H0]; · iapply owns_pt c (st0_0 t) (hst0 t) _; iexact H0
  isplitl [H1]; · iapply owns_pt c (st0_1 t) (hst1 t) _; iexact H1
  isplitl [H2]; · iapply owns_pt c (st0_2 t) (hst2 t) _; iexact H2
  isplitl [H3]; · iapply owns_pt c (st0_3 t) (hst3 t) _; iexact H3
  isplitl [H4]; · iapply owns_pt c (st0_4 t) (hst4 t) _; iexact H4
  isplitl [H5]; · iapply owns_pt c (st0_5 t) (hst5 t) _; iexact H5
  isplitl [H6]; · iapply owns_pt c (st0_6 t) (hst6 t) _; iexact H6
  isplitl [H7]; · iapply owns_pt c (st0_7 t) (hst7 t) _; iexact H7
  isplitl [H9]; · iexact H9
  isplitl [H10]; · iexact H10
  isplitl [H11]; · iexact H11
  iintro ⟨H0, H1, H2, H3, H4, H5, H6, H7, H9, H10, H11⟩
  isplitl [H9 H10 H11 Hg]
  · isplitl [H9]; · iexact H9
    isplitl [H10]; · iexact H10
    isplitl [H11]
    · iexists _; isplitr
      swap; · iexact H11
      ipureintro
      rw [runAt_s]
      exact filled_step m c t _ hS
    iexact Hg
  isplitl [HW]
  · iexists W; isplitr; · ipureintro; exact fun _ _ => Or.inl trivial
    iexact HW
  isplitl [H0]; · iapply pt_owns c (st0_0 t) (hst0 t) (Memref.IsWhole.read_unread _ _); iexact H0
  isplitl [H1]; · iapply pt_owns c (st0_1 t) (hst1 t) (Memref.IsWhole.read_unread _ _); iexact H1
  isplitl [H2]; · iapply pt_owns c (st0_2 t) (hst2 t) (Memref.IsWhole.read_unread _ _); iexact H2
  isplitl [H3]; · iapply pt_owns c (st0_3 t) (hst3 t) (Memref.IsWhole.read_unread _ _); iexact H3
  isplitl [H4]; · iapply pt_owns c (st0_4 t) (hst4 t) (Memref.IsWhole.read_unread _ _); iexact H4
  isplitl [H5]; · iapply pt_owns c (st0_5 t) (hst5 t) (runAt_y m c t _ _); iexact H5
  isplitl [H6]; · iapply pt_owns c (st0_6 t) (hst6 t) (runAt_c m c t _ _); iexact H6
  unfold post7
  by_cases h : t.val = 31
  · rw [if_pos h, after7]
    iapply pt_owns c (st0_7 t) (hst7 t) ((runAt_t m c t _ _ h).trans (outT_filled m c _ (by
      have := filled_step m c t _ hS
      rwa [h] at this)))
    iexact H7
  · rw [if_neg h, runAt_idle m c t _ _ h]
    iexists d7
    iapply pt_owns c (st0_7 t) (hst7 t) (Memref.IsWhole.read_unread _ _)
    iexact H7

/-- The body table's row at point `t`. -/
theorem defs₀_row (t : Fin cfg0.N) : defs₀ (F := F) .tc cfg0.body (cfg0.bodyArgs t (cfg0.slots t)) = bodyAt0 t := by
  unfold defs₀; rw [Defs.onTc_tc]

theorem idle7 : ∀ t : Fin cfg0.N, cfg0.idle 7 (cfg0.grid.coords t) = !decide (t.val = 31) := (by decide +kernel : ∀ t : Fin grid0.N, _)

/-- The launch's obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl ?_ fun _ => ?_
  · exact .rfl
  unfold bodyPost post7
  by_cases h : t.val = 31
  · rw [if_pos h]
    have hi : idle0 7 (grid0.coords t) = false := (idle7 t).trans (by simp [h])
    simp only [hi]
    exact .rfl
  · rw [if_neg h]
    have hi : idle0 7 (grid0.coords t) = true := (idle7 t).trans (by simp [h])
    have hf : (cfg0.win 7).flush t = false := by
      rw [← Bool.not_eq_true, flush0_7]
      have := t.isLt; have := N_0
      have : t.val < grid0.N := t.isLt
      omega
    simp only [hi, hf]
    exact .rfl

/-! ## The run -/

theorem inv_in (c : Dev nD) : Pipeline.ΦA (U := UR sig nD τ) (Val := Elt F) spec0 c ⊢ (dats m 0 c).Φ 0 := by
  unfold Pipeline.ΦA
  rw [scopedRest0_eq, show (dats m 0 c).Φ 0 = Inv m c 0 from rfl]
  unfold Inv
  iintro ⟨⟨H9, H10, ⟨%f, H11⟩⟩, Hg⟩
  isplitl [H9]; · iexact H9
  isplitl [H10]; · iexact H10
  isplitl [H11]
  · iexists f; isplitr
    · ipureintro; intro l r h; omega
    iexact H11
  iexact Hg

theorem inv_out (c : Dev nD) : (dats m 0 c).Φ (Fin.last cfg0.N) ⊢ Pipeline.ΦA (U := UR sig nD τ) (Val := Elt F) spec0 c := by
  unfold Pipeline.ΦA
  rw [scopedRest0_eq, show (dats m 0 c).Φ (Fin.last cfg0.N) = Inv m c cfg0.N from rfl]
  unfold Inv
  iintro ⟨H9, H10, ⟨%f, -, H11⟩, Hg⟩
  isplitl [H9 H10 H11]
  · isplitl [H9]; · iexact H9
    isplitl [H10]; · iexact H10
    iexists f; iexact H11
  iexact Hg

set_option backward.isDefEq.respectTransparency.types false in
/-- The launch ends with every array as the data states, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (inv_in m) (inv_out m)
    (hQ' := fun _ h => h)

/-- The program ends, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Values.Codes.lean ====
/- The three-bit codes. A weight's code is two bits of one byte and one bit of another, read as `low + 4·high − 4`. The
   kernel places the two bits at 5 and 6 of a byte and the complement of the third at 7, four bytes to a word, and so
   reads 32 times the code as a signed byte. -/
module

public import Idealize.ShloMosaic.Lib.Pointwise
public import Idealize.ShloMosaic.Lib.BitcastFour

@[expose] public section

noncomputable section

namespace Cert.Values

open Idealize.ShloMosaic

/-- The two low bits of field `j` of a byte. -/
def lowBits (q : BitVec 8) (j : Fin 4) : BitVec 32 :=
  IntOp.andi (IntOp.shrsi .host (BitVec.setWidth 32 q) (IntOp.muli (2#32) (BitVec.ofNat 32 j))) 3#32

/-- Bit `4·h + j` of a byte. -/
def highBit (b : BitVec 8) (h : Fin 2) (j : Fin 4) : BitVec 32 :=
  IntOp.andi (IntOp.shrsi .host (BitVec.setWidth 32 b) (BitVec.ofNat 32 (h.val * 4 + j.val))) 1#32

/-- The code: `low + 4·high − 4`. -/
def codeWord (q b : BitVec 8) (h : Fin 2) (j : Fin 4) : BitVec 32 :=
  IntOp.subi (IntOp.addi (lowBits q j) (IntOp.muli (4#32) (highBit b h j))) 4#32

/-- The byte the kernel makes: two bits at 5 and 6, the complement of the third at 7. -/
def codeByte (q b : BitVec 8) (h : Fin 2) (j : Fin 4) : BitVec 8 :=
  ((q >>> (2 * j.val) &&& 3#8) <<< 5) ||| ((~~~b >>> (h.val * 4 + j.val) &&& 1#8) <<< 7)

theorem low_cases : ∀ (q : Fin 256) (j : Fin 4), ∃ l : Fin 4,
    (BitVec.ofFin (w := 8) q >>> (2 * j.val) &&& 3#8) = BitVec.ofNat 8 l ∧ lowBits (BitVec.ofFin q) j = BitVec.ofNat 32 l := by
  decide +kernel

theorem high_cases : ∀ (b : Fin 256) (h : Fin 2) (j : Fin 4), ∃ l : Fin 2,
    (~~~(BitVec.ofFin (w := 8) b) >>> (h.val * 4 + j.val) &&& 1#8) = BitVec.ofNat 8 (1 - l.val)
      ∧ highBit (BitVec.ofFin b) h j = BitVec.ofNat 32 l := by
  decide +kernel

theorem code_cases : ∀ (l : Fin 4) (k : Fin 2),
    ((BitVec.ofNat 8 l.val <<< 5) ||| (BitVec.ofNat 8 (1 - k.val) <<< 7)).toInt
      = 32 * (IntOp.subi (IntOp.addi (BitVec.ofNat 32 l.val) (IntOp.muli (4#32) (BitVec.ofNat 32 k.val))) 4#32).toInt := by
  decide +kernel

/-- The byte, read signed, is 32 times the code. -/
theorem codeByte_toInt (q b : BitVec 8) (h : Fin 2) (j : Fin 4) :
    (codeByte q b h j).toInt = 32 * (codeWord q b h j).toInt := by
  obtain ⟨l, hl, hl'⟩ := low_cases q.toFin j
  obtain ⟨k, hk, hk'⟩ := high_cases b.toFin h j
  have e1 : BitVec.ofFin q.toFin = q := rfl
  have e2 : BitVec.ofFin b.toFin = b := rfl
  rw [e1] at hl hl'
  rw [e2] at hk hk'
  unfold codeByte codeWord
  rw [hl, hl', hk, hk']
  exact code_cases l k

/-- The byte's bits. -/
theorem codeByte_getLsbD (q b : BitVec 8) (h : Fin 2) (j : Fin 4) (t : Nat) (ht : t < 8) :
    (codeByte q b h j).getLsbD t = ((decide (t = 5 ∨ t = 6) && q.getLsbD (t - 5 + 2 * j.val))
      || (decide (t = 7) && !b.getLsbD (h.val * 4 + j.val))) := by
  have hf : h.val * 4 + j.val < 8 := by omega
  have hf' : j.val + h.val * 4 < 8 := by omega
  interval_cases t <;> simp [codeByte, hf', Nat.add_comm]

theorem lowMask : ∀ (k : Fin 4) (t : Fin 8), (0x60606060#32).getLsbD (8 * k.val + t.val) = decide (t.val = 5 ∨ t.val = 6) := by
  decide +kernel

theorem highMask : ∀ (k : Fin 4) (t : Fin 8), (0x80808080#32).getLsbD (8 * k.val + t.val) = decide (t.val = 7) := by
  decide +kernel

/-- The word of the low fields, shifted so that field `j` lies at bits 5 and 6 of each byte. -/
def lowWord (v : BitVec 32) (j : Nat) : BitVec 32 :=
  if j = 0 then IntOp.shli .vector v 5#32 else if j = 1 then IntOp.shli .vector v 3#32
  else if j = 2 then IntOp.shli .vector v 1#32 else IntOp.shrui .vector v 1#32

/-- The word of the high bits, shifted so that bit `f` lies at bit 7 of each byte. -/
def highWord (v : BitVec 32) (f : Nat) : BitVec 32 :=
  if f = 7 then v else IntOp.shli .vector v (BitVec.ofNat 32 (7 - f))

theorem lowWord_getLsbD (v : BitVec 32) (j : Fin 4) (k t : Nat) (hk : k < 4) (ht : t = 5 ∨ t = 6) :
    (lowWord v j.val).getLsbD (8 * k + t) = v.getLsbD (8 * k + (t - 5 + 2 * j.val)) := by
  obtain ⟨j, hj⟩ := j
  have hb : 8 * k + t < 32 := by omega
  have L : ∀ s : Nat, s < 6 → 2 * j = 5 - s → 8 * k + (t - 5 + 2 * j) = 8 * k + t - s := by omega
  have hs : ∀ s : Nat, s < 6 → ¬ 8 * k + t < s := by omega
  interval_cases j
  · rw [L 5 (by omega) rfl]
    simp [lowWord, IntOp.shli, hb, hs 5, BitVec.getLsbD_eq_getElem (show 8 * k + t - 5 < 32 by omega)]
  · rw [L 3 (by omega) rfl]
    simp [lowWord, IntOp.shli, hb, hs 3, BitVec.getLsbD_eq_getElem (show 8 * k + t - 3 < 32 by omega)]
  · rw [L 1 (by omega) rfl]
    have h1 := hs 1 (by omega)
    simp [lowWord, IntOp.shli, hb, h1, BitVec.getLsbD_eq_getElem (show 8 * k + t - 1 < 32 by omega)]
  · rw [show 8 * k + (t - 5 + 2 * 3) = 1 + (8 * k + t) by omega]
    simp [lowWord, IntOp.shrui]

theorem highWord_getLsbD (v : BitVec 32) (f k : Nat) (hf : f < 8) (hk : k < 4) :
    (highWord v f).getLsbD (8 * k + 7) = v.getLsbD (8 * k + f) := by
  unfold highWord
  split
  · next h => rw [h]
  · have e : (BitVec.ofNat 32 (7 - f)).toNat = 7 - f := by simp; omega
    simp only [IntOp.shli, e]
    rw [if_pos (by omega), BitVec.shiftLeft_eq', e, BitVec.getLsbD_shiftLeft]
    have h1 : 8 * k + 7 < 32 := by omega
    have h2 : ¬ 8 * k + 7 < 7 - f := by omega
    have h3 : 8 * k + 7 - (7 - f) = 8 * k + f := by omega
    simp [h1, h2, h3]

/-- Byte `k` of the combined word is the code byte of byte `k` of the two words. -/
theorem word_getLsbD (v u : BitVec 32) (q b : BitVec 8) (h : Fin 2) (j : Fin 4) (k t : Nat) (hk : k < 4) (ht : t < 8)
    (hq : ∀ i < 8, v.getLsbD (8 * k + i) = q.getLsbD i) (hb : ∀ i < 8, u.getLsbD (8 * k + i) = !b.getLsbD i) :
    (IntOp.ori (IntOp.andi (lowWord v j.val) 0x60606060#32)
        (IntOp.andi (highWord u (h.val * 4 + j.val)) 0x80808080#32)).getLsbD (8 * k + t)
      = (codeByte q b h j).getLsbD t := by
  rw [codeByte_getLsbD q b h j t ht]
  have m1 := lowMask ⟨k, hk⟩ ⟨t, ht⟩
  have m2 := highMask ⟨k, hk⟩ ⟨t, ht⟩
  simp only at m1 m2
  simp only [IntOp.ori, IntOp.andi, BitVec.getLsbD_or, BitVec.getLsbD_and, m1, m2]
  by_cases h5 : t = 5 ∨ t = 6
  · have h7 : t ≠ 7 := by omega
    rw [lowWord_getLsbD v j k t hk h5, hq _ (by omega)]
    simp [h5, h7]
  · by_cases h7 : t = 7
    · subst h7
      rw [highWord_getLsbD u _ k (by omega) hk, hb _ (by omega)]
      simp
    · simp [h5, h7]

/-- Bit `p` of byte `(b, o)` of an array of words, read as bytes, is bit `8·(b mod 4) + p` of word `(b / 4, o)`. -/
theorem bitcast_32_8_getLsbD_ix2 {r n : Nat} (x : IVec ⟨2, ![r, n]⟩ 32)
    (h : (⟨2, ![r, n]⟩ : Shape).Bitcasts 32 ⟨2, ![4 * r, n]⟩ 8) (b : Fin (4 * r)) (o : Fin n) (p : Nat) (hp : p < 8)
    (a : Fin r) (ha : a.val = b.val / 4) :
    (bitcast ⟨2, ![4 * r, n]⟩ 8 x h (ix2 b o)).getLsbD p = (x (ix2 a o)).getLsbD (8 * (b.val % 4) + p) := by
  rw [bitcast_getLsbD x h _ p hp (by decide)]
  have e1 : ((⟨2, ![4 * r, n]⟩ : Shape).row (ix2 b o) * 8 + p) / 32 = a.val := by
    rw [ha]; show (b.val * 8 + p) / 32 = _; omega
  have e2 : ((⟨2, ![4 * r, n]⟩ : Shape).row (ix2 b o) * 8 + p) % 32 = 8 * (b.val % 4) + p := by
    show (b.val * 8 + p) % 32 = _; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

end Cert.Values

end
-- ==== Proof.Values.Half.lean ====
/- The 16-bit scale's value. The reference computes it from sign, exponent and fraction; the kernel places the magnitude's
   bits in a 32-bit pattern, moves the exponent, and reads that. The two agree for every 16-bit pattern. -/
module

public import Idealize.ShloMosaic.Lib.Pointwise

@[expose] public section

noncomputable section

namespace Cert.Values

open Idealize.ShloMosaic

/-- The magnitude, from exponent and fraction. -/
def halfMag (u : BitVec 32) : EReal :=
  Scalar.select (IntOp.cmpi .eq (IntOp.andi (IntOp.shrsi .host u 10#32) 31#32) 0#32)
    (FloatOps.sitofp (F := Ideal) .f32 (IntOp.andi u 1023#32) * Ideal.ofBits .f32 864026624#32)
    (Scalar.select (IntOp.cmpi .eq (IntOp.andi (IntOp.shrsi .host u 10#32) 31#32) 31#32)
      (Scalar.select (IntOp.cmpi .eq (IntOp.andi u 1023#32) 0#32) (Ideal.ofBits .f32 2139095040#32) (Ideal.ofBits .f32 2143289344#32))
      (FloatOps.sitofp (F := Ideal) .f32 (IntOp.addi 1024#32 (IntOp.andi u 1023#32))
        * FloatOps.sitofp (F := Ideal) .f32 (IntOp.shli .host 1#32 (IntOp.andi (IntOp.shrsi .host u 10#32) 31#32))
        * Ideal.ofBits .f32 855638016#32))

/-- The value: the magnitude, negated when the sign bit is set. -/
def halfValue (u : BitVec 32) : EReal :=
  Scalar.select (IntOp.cmpi .eq (IntOp.shrsi .host u 15#32) 1#32) (-(halfMag u)) (halfMag u)

/-- The magnitude as the kernel reads it. -/
def halfMagK (u : BitVec 32) : EReal :=
  Scalar.select (IntOp.cmpi .slt (IntOp.andi u 32767#32) 1024#32)
    (FloatOps.sitofp (F := Ideal) .f32 (IntOp.andi u 32767#32) * Ideal.ofBits .f32 864026624#32)
    (Scalar.select (IntOp.cmpi .sge (IntOp.andi u 32767#32) 31744#32)
      (Ideal.ofBits .f32 (IntOp.ori (IntOp.shli .vector (IntOp.andi u 32767#32) 13#32) 2139095040#32))
      (Ideal.ofBits .f32 (IntOp.addi (IntOp.shli .vector (IntOp.andi u 32767#32) 13#32) 939524096#32)))

/-- The value as the kernel reads it. -/
def halfValueK (u : BitVec 32) : EReal :=
  Scalar.select (IntOp.cmpi .ne (IntOp.andi u 32768#32) 0#32) (0 - halfMagK u) (halfMagK u)

theorem shr_toNat (u : BitVec 32) (hu : u.toNat < 65536) (k : Nat) (hk : k < 32) :
    (IntOp.shrsi .host u (BitVec.ofNat 32 k)).toNat = u.toNat / 2 ^ k := by
  have e : (BitVec.ofNat 32 k).toNat = k := by simp; omega
  have hm : u.msb = false := by rw [BitVec.msb_eq_false_iff_two_mul_lt]; omega
  simp only [IntOp.shrsi, e, if_pos hk]
  rw [BitVec.sshiftRight', e, BitVec.sshiftRight_eq_of_msb_false hm, BitVec.toNat_ushiftRight, Nat.shiftRight_eq_div_pow]

theorem mask_toNat (u : BitVec 32) (k : Nat) (hk : k < 32) :
    (IntOp.andi u (BitVec.ofNat 32 (2 ^ k - 1))).toNat = u.toNat % 2 ^ k := by
  have h2 : 2 ^ k < 2 ^ 32 := Nat.pow_lt_pow_right (by decide) hk
  have e : (BitVec.ofNat 32 (2 ^ k - 1)).toNat = 2 ^ k - 1 := by
    rw [BitVec.toNat_ofNat, Nat.mod_eq_of_lt (by omega)]
  rw [IntOp.andi, BitVec.toNat_and, e, Nat.and_two_pow_sub_one_eq_mod]

/-- The integer side, for the sign `s`, exponent `e` and fraction `f` of a pattern. -/
theorem parts (u : BitVec 32) (s e f : Nat) (hs : s < 2) (he : e < 32) (hf : f < 1024) (hu : u.toNat = s * 32768 + e * 1024 + f) :
    IntOp.andi (IntOp.shrsi .host u 10#32) 31#32 = BitVec.ofNat 32 e
      ∧ IntOp.andi u 1023#32 = BitVec.ofNat 32 f
      ∧ IntOp.andi u 32767#32 = BitVec.ofNat 32 (e * 1024 + f)
      ∧ IntOp.shrsi .host u 15#32 = BitVec.ofNat 32 s
      ∧ IntOp.andi u 32768#32 = BitVec.ofNat 32 (s * 32768) := by
  have hlt : u.toNat < 65536 := by omega
  have a1 := shr_toNat u hlt 10 (by decide)
  have a2 := mask_toNat (IntOp.shrsi .host u 10#32) 5 (by decide)
  have a3 := mask_toNat u 10 (by decide)
  have a4 := mask_toNat u 15 (by decide)
  have a5 := shr_toNat u hlt 15 (by decide)
  have L : ∀ n : Nat, n < 65536 → (BitVec.ofNat 32 n).toNat = n := fun n h => by rw [BitVec.toNat_ofNat, Nat.mod_eq_of_lt (by omega)]
  refine ⟨BitVec.eq_of_toNat_eq ?_, BitVec.eq_of_toNat_eq ?_, BitVec.eq_of_toNat_eq ?_, BitVec.eq_of_toNat_eq ?_, BitVec.eq_of_toNat_eq ?_⟩
  · refine a2.trans ?_
    rw [a1, L e (by omega), hu]; omega
  · refine a3.trans ?_
    rw [L f (by omega), hu]; omega
  · refine a4.trans ?_
    rw [L _ (by omega), hu]; omega
  · refine a5.trans ?_
    rw [L _ (by omega), hu]; omega
  · rw [IntOp.andi, BitVec.toNat_and, L _ (by omega)]
    show u.toNat &&& 2 ^ 15 = _
    have hb : u.toNat.testBit 15 = decide (s = 1) := by
      rw [Nat.testBit_eq_decide_div_mod_eq, hu]
      have : (s * 32768 + e * 1024 + f) / 2 ^ 15 % 2 = s := by omega
      rw [this]
    apply Nat.eq_of_testBit_eq
    intro i
    rw [Nat.testBit_and, Nat.testBit_two_pow]
    by_cases hi : 15 = i
    · subst hi
      rw [hb]
      interval_cases s <;> decide
    · have : (s * 32768).testBit i = false := by
        interval_cases s
        · simp
        · show (1 * 2 ^ 15).testBit i = false
          rw [Nat.one_mul, Nat.testBit_two_pow]; simp [hi]
      rw [L (s * 32768) (by omega), this]; simp [hi]

theorem f32_fields (b : BitVec 32) (E f : Nat) (hE : E < 256) (hf : f < 2 ^ 23) (hb : b.toNat = E * 2 ^ 23 + f) :
    (b.extractLsb' 31 1 == 1#1) = false ∧ (b.extractLsb' 23 8).toNat = E ∧ (b.extractLsb' 0 23).toNat = f := by
  have h1 : (b.extractLsb' 31 1).toNat = 0 := by
    rw [BitVec.extractLsb'_toNat, hb, Nat.shiftRight_eq_div_pow]; omega
  refine ⟨?_, ?_, ?_⟩
  · rw [beq_eq_false_iff_ne]
    intro h
    rw [h] at h1
    exact absurd h1 (by decide)
  · rw [BitVec.extractLsb'_toNat, hb, Nat.shiftRight_eq_div_pow]; omega
  · rw [BitVec.extractLsb'_toNat, hb, Nat.shiftRight_eq_div_pow]; omega

theorem ofBits_normal (b : BitVec 32) (E f : Nat) (h1 : 1 ≤ E) (hE : E < 255) (hf : f < 2 ^ 23) (hb : b.toNat = E * 2 ^ 23 + f) :
    Ideal.ofBits .f32 b = (((2 ^ 23 + f : ℝ) * (2 : ℝ) ^ ((E : ℤ) - 150) : ℝ) : EReal) := by
  obtain ⟨a1, a2, a3⟩ := f32_fields b E f (by omega) hf hb
  show Ideal.ieee 8 23 b = _
  unfold Ideal.ieee
  simp only [show 8 + 23 = 31 from rfl, a1, a2, a3]
  rw [if_neg (by omega), if_neg (by omega)]
  congr 1
  have e : (E : ℤ) - (2 ^ (8 - 1) - 1) - 23 = (E : ℤ) - 150 := by norm_num; ring
  push_cast at *
  rw [e]
  simp
  left; norm_num

theorem ofBits_top (b : BitVec 32) (f : Nat) (hf : f < 2 ^ 23) (hb : b.toNat = 255 * 2 ^ 23 + f) :
    Ideal.ofBits .f32 b = if f = 0 then ⊤ else ⊥ := by
  obtain ⟨a1, a2, a3⟩ := f32_fields b 255 f (by omega) hf hb
  show Ideal.ieee 8 23 b = _
  unfold Ideal.ieee
  simp only [show 8 + 23 = 31 from rfl, a1, a2, a3]
  simp

theorem shl13 (n : Nat) (h : n < 32768) : (IntOp.shli .vector (BitVec.ofNat 32 n) 13#32).toNat = n * 8192 := by
  simp only [IntOp.shli]
  have e : (13#32).toNat = 13 := rfl
  rw [if_pos (by decide), BitVec.shiftLeft_eq', e, BitVec.toNat_shiftLeft, BitVec.toNat_ofNat, Nat.shiftLeft_eq]
  omega

theorem ofBits_norm (e f : Nat) (h1 : 1 ≤ e) (he : e < 31) (hf : f < 1024) :
    Ideal.ofBits .f32 (IntOp.addi (IntOp.shli .vector (BitVec.ofNat 32 (e * 1024 + f)) 13#32) 939524096#32)
      = (((1024 + f : ℝ) * 2 ^ e * 2 ^ (-25 : ℤ) : ℝ) : EReal) := by
  rw [ofBits_normal _ (e + 112) (f * 8192) (by omega) (by omega) (by omega)]
  · congr 1
    have : ((e + 112 : ℕ) : ℤ) - 150 = (e : ℤ) + (-25) + (-13) := by push_cast; ring
    rw [this, zpow_add₀ (by norm_num), zpow_add₀ (by norm_num), zpow_natCast]
    push_cast
    norm_num
    ring
  · rw [IntOp.addi, BitVec.toNat_add, shl13 _ (by omega)]
    simp only [BitVec.toNat_ofNat]
    omega

theorem special_bits : ∀ f : Fin 1024, (IntOp.ori (IntOp.shli .vector (BitVec.ofNat 32 (31 * 1024 + f.val)) 13#32) 2139095040#32).toNat
    = 255 * 2 ^ 23 + f.val * 8192 := by
  decide +kernel

theorem ofBits_special (f : Nat) (hf : f < 1024) :
    Ideal.ofBits .f32 (IntOp.ori (IntOp.shli .vector (BitVec.ofNat 32 (31 * 1024 + f)) 13#32) 2139095040#32)
      = if f = 0 then ⊤ else ⊥ := by
  rw [ofBits_top _ (f * 8192) (by omega) (special_bits ⟨f, hf⟩)]
  simp

theorem ofNat_toInt (n : Nat) (h : n < 2 ^ 31) : FloatOps.sitofp (F := Ideal) .f32 (BitVec.ofNat 32 n) = (((n : ℝ)) : EReal) := by
  have : (BitVec.ofNat 32 n).toInt = n := by
    rw [BitVec.toInt_eq_toNat_of_lt (by rw [BitVec.toNat_ofNat, Nat.mod_eq_of_lt (by omega)]; omega), BitVec.toNat_ofNat, Nat.mod_eq_of_lt (by omega)]
  show (((BitVec.ofNat 32 n).toInt : ℝ) : EReal) = _
  rw [this]; simp

theorem ofBits_inf : Ideal.ofBits .f32 2139095040#32 = ⊤ := ofBits_top _ 0 (by decide) (by decide)
theorem ofBits_nan : Ideal.ofBits .f32 2143289344#32 = ⊥ := ofBits_top _ 4194304 (by decide) (by decide)
theorem ofBits_m25 : Ideal.ofBits .f32 855638016#32 = ((2 ^ (-25 : ℤ) : ℝ) : EReal) := by
  rw [ofBits_normal _ 102 0 (by decide) (by decide) (by decide) (by decide)]
  congr 1; norm_num
theorem ofBits_32nd : Ideal.ofBits .f32 1023410176#32 = ((1 / 32 : ℝ) : EReal) := by
  rw [ofBits_normal _ 122 0 (by decide) (by decide) (by decide) (by decide)]
  congr 1; norm_num

theorem shl_one : ∀ e : Fin 31, IntOp.shli .host 1#32 (BitVec.ofNat 32 e.val) = BitVec.ofNat 32 (2 ^ e.val) := by decide +kernel

theorem small_toInt (n : Nat) (h : n < 65536) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

theorem slt_ofNat (n k : Nat) (hn : n < 65536) (hk : k < 65536) :
    IntOp.cmpi .slt (BitVec.ofNat 32 n) (BitVec.ofNat 32 k) = BitVec.ofBool (decide (n < k)) := by
  simp only [IntOp.cmpi, BitVec.slt, small_toInt n hn, small_toInt k hk, Nat.cast_lt]

theorem sge_ofNat (n k : Nat) (hn : n < 65536) (hk : k < 65536) :
    IntOp.cmpi .sge (BitVec.ofNat 32 n) (BitVec.ofNat 32 k) = BitVec.ofBool (decide (k ≤ n)) := by
  simp only [IntOp.cmpi, BitVec.sle, small_toInt n hn, small_toInt k hk, Nat.cast_le]

theorem eq_ofNat (n k : Nat) (hn : n < 65536) (hk : k < 65536) :
    IntOp.cmpi .eq (BitVec.ofNat 32 n) (BitVec.ofNat 32 k) = BitVec.ofBool (decide (n = k)) := by
  simp only [IntOp.cmpi]
  congr 1
  have L : ∀ n : Nat, n < 65536 → (BitVec.ofNat 32 n).toNat = n := fun n h => by rw [BitVec.toNat_ofNat, Nat.mod_eq_of_lt (by omega)]
  rw [beq_eq_decide]
  exact decide_eq_decide.mpr ⟨fun h => by rw [← L n hn, ← L k hk, h], fun h => by rw [h]⟩

/-- The two magnitudes agree. -/
theorem mag_eq (u : BitVec 32) (s e f : Nat) (hs : s < 2) (he : e < 32) (hf : f < 1024) (hu : u.toNat = s * 32768 + e * 1024 + f) :
    halfMagK u = halfMag u := by
  obtain ⟨p1, p2, p3, p4, p5⟩ := parts u s e f hs he hf hu
  unfold halfMagK halfMag
  rw [p1, p2, p3]
  have clt := slt_ofNat (e * 1024 + f) 1024 (by omega) (by decide)
  have cge := sge_ofNat (e * 1024 + f) 31744 (by omega) (by decide)
  have c0 := eq_ofNat e 0 (by omega) (by decide)
  have c31 := eq_ofNat e 31 (by omega) (by decide)
  have cf := eq_ofNat f 0 (by omega) (by decide)
  rw [clt, cge, c0, c31, cf]
  by_cases h0 : e = 0
  · subst h0
    simp [Scalar.select, hf]
  · have n1 : ¬ e * 1024 + f < 1024 := by omega
    by_cases h31 : e = 31
    · subst h31
      have n2 : 31744 ≤ 31 * 1024 + f := by omega
      rw [ofBits_special f hf, ofBits_inf, ofBits_nan]
      rw [decide_eq_false n1, decide_eq_true n2]
      by_cases hz : f = 0 <;> simp [Scalar.select, hz]
    · have n2 : ¬ 31744 ≤ e * 1024 + f := by omega
      have e1 : IntOp.addi 1024#32 (BitVec.ofNat 32 f) = BitVec.ofNat 32 (1024 + f) := by
        rw [BitVec.ofNat_add]; rfl
      rw [ofBits_norm e f (by omega) (by omega) hf, e1, shl_one ⟨e, by omega⟩, ofNat_toInt (1024 + f) (by omega),
        ofNat_toInt (2 ^ e) (Nat.pow_lt_pow_right (by decide) (by omega)), ofBits_m25]
      simp [Scalar.select, n1, n2, h0, h31]

/-- The two values agree for every 16-bit pattern. -/
theorem half_eq (w : BitVec 16) : halfValueK (BitVec.setWidth 32 w) = halfValue (BitVec.setWidth 32 w) := by
  have hu : (BitVec.setWidth 32 w).toNat = w.toNat := by
    rw [BitVec.toNat_setWidth, Nat.mod_eq_of_lt (by have := w.isLt; omega)]
  have hw := w.isLt
  have h := (show (BitVec.setWidth 32 w).toNat = w.toNat / 32768 * 32768 + w.toNat / 1024 % 32 * 1024 + w.toNat % 1024 by omega)
  have hm := mag_eq _ _ _ _ (by omega) (by omega) (by omega) h
  obtain ⟨-, -, -, p4, p5⟩ := parts _ _ _ _ (by omega) (by omega) (by omega) h
  unfold halfValueK halfValue
  rw [hm, p4, p5]
  have hs : w.toNat / 32768 < 2 := by omega
  generalize w.toNat / 32768 = s at hs
  interval_cases s <;> simp [Scalar.select, IntOp.cmpi]

end Cert.Values

end
-- ==== Proof.Values.Spec.lean ====
/- The scalar formulas both programs meet in: a group's six-bit scale, a weight, a run's scale, a code of the result. -/
module

public import proofs.«01_k».proof.Proof.Values.Codes
public import proofs.«01_k».proof.Proof.Values.Half

@[expose] public section

noncomputable section

namespace Cert.Values

open Idealize.ShloMosaic

/-- The six-bit scale of group `g`, 32 taken away: four bits of `lo`, two bits of `hi`. -/
def sixWord (lo hi : BitVec 8) (g : Fin 16) : BitVec 32 :=
  IntOp.subi
    (IntOp.ori
      (IntOp.andi (IntOp.shrsi .host (BitVec.setWidth 32 lo) (IntOp.muli (4#32) (BitVec.ofNat 32 (g.val / 8)))) 15#32)
      (IntOp.shli .host
        (IntOp.andi (IntOp.shrsi .host (BitVec.setWidth 32 hi) (IntOp.muli (2#32) (BitVec.ofNat 32 (g.val / 4)))) 3#32) 4#32))
    32#32

/-- A weight: its code, times the 16-bit scale's value times the group's six-bit scale. -/
def weight (q b : BitVec 8) (h : Fin 2) (j : Fin 4) (w : BitVec 16) (lo hi : BitVec 8) (g : Fin 16) : EReal :=
  FloatOps.sitofp (F := Ideal) .bf16 (codeWord q b h j)
    * (halfValue (BitVec.setWidth 32 w) * FloatOps.sitofp (F := Ideal) .f32 (sixWord lo hi g))

/-- A run's scale, of its greatest magnitude. -/
def runScale (a : EReal) : EReal := if a = 0 then 1 else Ideal.div a (Ideal.ofBits .f32 1123942400#32)

/-- The code of `y` at scale `s`. -/
def runCode (y s : EReal) : BitVec 8 :=
  BitVec.setWidth 8 (FloatOps.fptosi (F := Ideal) (φ := .f32) 32
    (min (((127#32).toInt : ℝ) : EReal) (max (((4294967169#32).toInt : ℝ) : EReal) (Ideal.liftRound Ideal.roundHalfEven (Ideal.div y s)))))

/-- The weight as the kernel makes it: the code 32 times over, the 16-bit scale's value divided by 32. -/
theorem weight_eq (q b : BitVec 8) (h : Fin 2) (j : Fin 4) (w : BitVec 16) (lo hi : BitVec 8) (g : Fin 16) :
    FloatOps.sitofp (F := Ideal) .bf16 (codeByte q b h j)
        * (halfValueK (BitVec.setWidth 32 w) * Ideal.ofBits .f32 1023410176#32 * FloatOps.sitofp (F := Ideal) .f32 (sixWord lo hi g))
      = weight q b h j w lo hi g := by
  rw [half_eq, ofBits_32nd, weight]
  show (((codeByte q b h j).toInt : ℝ) : EReal) * _ = (((codeWord q b h j).toInt : ℝ) : EReal) * _
  rw [codeByte_toInt]
  push_cast
  generalize halfValue (BitVec.setWidth 32 w) = v
  generalize FloatOps.sitofp (F := Ideal) FTy.f32 (sixWord lo hi g) = s
  have e1 : ((32 : ℝ) : EReal) * ((1 / 32 : ℝ) : EReal) = 1 := by
    rw [← EReal.coe_mul]; norm_num
  rw [mul_comm ((32 : ℝ) : EReal) _, mul_assoc]
  congr 1
  rw [mul_comm v, mul_assoc, ← mul_assoc, e1, one_mul]

theorem ofBits_127 : Ideal.ofBits .f32 1123942400#32 = ((127 : ℝ) : EReal) := by
  rw [ofBits_normal _ 133 8257536 (by decide) (by decide) (by decide) (by decide)]
  congr 1; norm_num

theorem runScale_ne_zero (a : EReal) : runScale a ≠ 0 := by
  unfold runScale
  split
  · exact one_ne_zero
  · next h =>
    rw [ofBits_127, Ideal.div, if_neg (by exact_mod_cast (by norm_num : (127 : ℝ) ≠ 0))]
    refine mul_ne_zero h ?_
    rw [← EReal.coe_inv]
    exact_mod_cast (by norm_num : (127 : ℝ)⁻¹ ≠ 0)

theorem toInt_trunc : ∀ k : Fin 255, BitVec.ofInt 8 ((k.val : ℤ) - 127) = BitVec.setWidth 8 (BitVec.ofInt 32 ((k.val : ℤ) - 127)) := by
  decide +kernel

/-- The code as the kernel computes it: a multiplication by the scale's reciprocal, and one conversion to eight bits. -/
theorem code_eq (y s : EReal) (hs : s ≠ 0) :
    FloatOps.fptosi (F := Ideal) (φ := .f32) 8
        (min (((127#32).toInt : ℝ) : EReal) (max (((4294967169#32).toInt : ℝ) : EReal) (Ideal.liftRound Ideal.roundHalfEven (y * Ideal.div 1 s))))
      = runCode y s := by
  rw [Ideal.mul_one_div hs, runCode]
  generalize Ideal.liftRound Ideal.roundHalfEven (Ideal.div y s) = z
  have h1 : (127#32).toInt = 127 := rfl
  have h2 : (4294967169#32).toInt = -127 := rfl
  rw [h1, h2]
  obtain ⟨r, hr, hr1, hr2⟩ : ∃ r : ℝ, min (((127 : ℤ) : ℝ) : EReal) (max (((-127 : ℤ) : ℝ) : EReal) z) = (r : EReal) ∧ -127 ≤ r ∧ r ≤ 127 := by
    induction z with
    | bot => exact ⟨-127, by
        rw [max_eq_left bot_le, min_eq_right (EReal.coe_le_coe_iff.mpr (by norm_num))]
        norm_num, by norm_num, by norm_num⟩
    | top => exact ⟨127, by simp, by norm_num, by norm_num⟩
    | coe a =>
      refine ⟨min 127 (max (-127) a), ?_, le_min (by norm_num) (le_max_left _ _), min_le_left _ _⟩
      push_cast
      rfl
  rw [hr]
  have b1 : (-127 : ℤ) ≤ (if 0 ≤ r then ⌊r⌋ else ⌈r⌉) := by
    split
    · next h => exact le_trans (by norm_num) (Int.floor_nonneg.mpr h)
    · exact Int.cast_le.mp ((show ((-127 : ℤ) : ℝ) ≤ r by push_cast; exact hr1).trans (Int.le_ceil r))
  have b2 : (if 0 ≤ r then ⌊r⌋ else ⌈r⌉) ≤ (127 : ℤ) := by
    split
    · exact Int.cast_le.mp ((Int.floor_le r).trans (by push_cast; exact hr2))
    · next h => exact Int.ceil_le.mpr (by push_cast; exact hr2)
  show BitVec.ofInt 8 (max (-(2 ^ (8 - 1))) (min (2 ^ (8 - 1) - 1) (if 0 ≤ r then ⌊r⌋ else ⌈r⌉)))
    = BitVec.setWidth 8 (BitVec.ofInt 32 (max (-(2 ^ (32 - 1))) (min (2 ^ (32 - 1) - 1) (if 0 ≤ r then ⌊r⌋ else ⌈r⌉))))
  generalize (if 0 ≤ r then ⌊r⌋ else ⌈r⌉) = t at b1 b2
  have e1 : max (-(2 ^ (8 - 1))) (min (2 ^ (8 - 1) - 1) t) = t := by norm_num; omega
  have e2 : max (-(2 ^ (32 - 1))) (min (2 ^ (32 - 1) - 1) t) = t := by norm_num; omega
  rw [e1, e2]
  have h := toInt_trunc ⟨(t + 127).toNat, by omega⟩
  simp only at h
  rwa [show (((t + 127).toNat : ℕ) : ℤ) - 127 = t by omega] at h

end Cert.Values

end
-- ==== Proof.KernelIdeal.Tiles.lean ====
/- What a step stores, entry by entry, in terms of the product of its activations and its weights. -/
module

public import proofs.«01_k».proof.Proof.KernelIdeal.Lanes
public import proofs.«01_k».proof.Proof.Values.Spec
public import Idealize.ShloMosaic.Lib.Pipeline.ValueKit

@[expose] public section

set_option maxRecDepth 16384

noncomputable section

namespace Cert.KernelIdeal.Hand

open Cert.KernelIdeal Cert.KernelIdeal.Gen Cert.Values
open Idealize.ShloMosaic
open Idealize.ShloMosaic.TcCoe Idealize.ShloMosaic.Tactic
open Idealize.ShloMosaic.View (ld canon)

variable (X : Vec Ideal S256x6144 .bf16) (W : Vec Ideal S6144x512 .bf16)

/-- The product's entry in row `r`, column `o` of the tile. -/
def prodAt (r : Fin 256) (o : Fin 512) : EReal := ∑ x : Fin 6144, (X (ix2 r x) : EReal) * W (ix2 x o)

/-- Lane `x` of half `h`. -/
def lane (h : Fin 2) (x : Fin 256) : Fin 512 := ⟨h.val * 256 + x.val, by omega⟩

/-- The greatest magnitude in row `r` of half `h` of the tile. -/
def peakAt (r : Fin 256) (h : Fin 2) : EReal :=
  Finset.fold max (Ideal.ofBits FTy.f32 4286578688#32)
    (fun x : Fin 256 => FloatOps.absf (F := Ideal) (φ := .f32) (prodAt X W r (lane h x))) Finset.univ

/-- The tile's product, entry by entry. -/
theorem dot_apply (r : Fin 256) (o : Fin 512) : k0_pay813 (F := Ideal) X W (ix2 r o) = prodAt X W r o := by
  pointwise [k0_pay813]
  rfl

/-- The first half of a tile's lanes. -/
theorem first_apply (r x : Fin 256) : k0_pay815 (F := Ideal) X W (ix2 r x) = prodAt X W r (lane 0 x) := by
  have e : k0_pay815 (F := Ideal) X W (ix2 r x) = k0_pay813 (F := Ideal) X W (ix2 r ⟨x.val, by omega⟩) := by
    pointwise [k0_pay815]
  rw [e, dot_apply]
  refine congrArg (prodAt X W r) (Fin.ext ?_)
  show x.val = 0 * 256 + x.val
  omega

/-- The second half of a tile's lanes. -/
theorem second_apply (r x : Fin 256) : k0_pay823 (F := Ideal) (k0_pay813 X W) (ix2 r x) = prodAt X W r (lane 1 x) := by
  have e : k0_pay823 (F := Ideal) (k0_pay813 X W) (ix2 r x) = k0_pay813 (F := Ideal) X W (ix2 r ⟨256 + x.val, by omega⟩) := by
    pointwise [k0_pay823]
  rw [e, dot_apply]
  refine congrArg (prodAt X W r) (Fin.ext ?_)
  show 256 + x.val = 1 * 256 + x.val
  omega

/-- The greatest magnitude of a row of the first half. -/
theorem peakA (r : Fin 256) : k0_pay816 (F := Ideal) X W (ix2 r 0) = peakAt X W r 0 := by
  have e : k0_pay816 (F := Ideal) X W (ix2 r 0) = Finset.fold max (Ideal.ofBits FTy.f32 4286578688#32)
      (fun x : Fin 256 => FloatOps.absf (F := Ideal) (φ := .f32) (k0_pay815 (F := Ideal) X W (ix2 r x))) Finset.univ := by
    pointwise [k0_pay816]
  rw [e]
  simp only [first_apply]
  rfl

/-- The scale of a row of a tile's first half. -/
theorem scaleA_apply (r : Fin 256) : scaleA (F := Ideal) X W (ix2 r 0) = runScale (peakAt X W r 0) := by
  have e : scaleA (F := Ideal) X W (ix2 r 0) = runScale (k0_pay816 (F := Ideal) X W (ix2 r 0)) := by
    unfold scaleA k0_pay817 k0_pay818
    generalize k0_pay816 (F := Ideal) X W = M
    pointwise [k0_pay820, k0_pay819]
    rfl
  rw [e, peakA]

/-- The scale of a row of a tile's second half, over the product. -/
theorem pay824_apply (Y : FVec Ideal S256x512 .f32) (r : Fin 256) :
    k0_pay824 (F := Ideal) Y (ix2 r 0) = runScale (Finset.fold max (Ideal.ofBits FTy.f32 4286578688#32)
      (fun x : Fin 256 => FloatOps.absf (F := Ideal) (φ := .f32) (k0_pay823 (F := Ideal) Y (ix2 r x))) Finset.univ) := by
  have e : Finset.fold max (Ideal.ofBits FTy.f32 4286578688#32)
      (fun x : Fin 256 => FloatOps.absf (F := Ideal) (φ := .f32) (k0_pay823 (F := Ideal) Y (ix2 r x))) Finset.univ
      = shapeCast S256x1 (multiReduction .maximumf [1] S256 (absf (k0_pay823 (F := Ideal) Y)) 0xFF800000#32 reduces_S256x256_S256 (.inl rfl) rfl)
        shapeCasts_S256_S256x1 (ix2 r 0) := by
    pointwise
  rw [e]
  unfold k0_pay824
  generalize shapeCast S256x1 (multiReduction .maximumf [1] S256 (absf (k0_pay823 (F := Ideal) Y)) 0xFF800000#32 reduces_S256x256_S256 (.inl rfl) rfl)
        shapeCasts_S256_S256x1 = M
  pointwise
  rfl

/-- The scale of a row of a tile's second half. -/
theorem scaleB_apply (r : Fin 256) : scaleB (F := Ideal) X W (ix2 r 0) = runScale (peakAt X W r 1) := by
  unfold scaleB
  rw [pay824_apply]
  simp only [second_apply]
  rfl

/-- The product, as stored. -/
theorem outY_apply (r : Fin 256) (o : Fin 512) : outY (F := Ideal) X W (ix2 r o) = prodAt X W r o := by
  have e : outY (F := Ideal) X W = k0_pay814 (F := Ideal) X W := by
    unfold outY
    rw [ld_allX, ld_allW]
    exact View.canon_cons_unit_lit _ _ _ (by decide)
  have e' : k0_pay814 (F := Ideal) X W (ix2 r o) = k0_pay813 (F := Ideal) X W (ix2 r o) := by
    pointwise [k0_pay814]
  rw [e, e', dot_apply]

/-- The code of an entry, as the kernel computes it from the entry and its run's scale. -/
def codeK (y s : EReal) : BitVec 8 :=
  FloatOps.fptosi (F := Ideal) (φ := .f32) 8
    (min (((127#32).toInt : ℝ) : EReal) (max (((4294967169#32).toInt : ℝ) : EReal) (Ideal.liftRound Ideal.roundHalfEven (y * Ideal.div 1 s))))

/-- The first half's codes. -/
theorem codesA_apply (r x : Fin 256) :
    k0_pay821 (F := Ideal) (k0_pay815 X W) (k0_pay817 X W) (k0_pay818 X W) k0_pay819 (ix2 r x)
      = codeK (prodAt X W r (lane 0 x)) (runScale (peakAt X W r 0)) := by
  rw [← first_apply, ← scaleA_apply]
  unfold scaleA
  generalize k0_pay815 (F := Ideal) X W = Y
  generalize k0_pay817 (F := Ideal) X W = C
  generalize k0_pay818 (F := Ideal) X W = Q
  unfold k0_pay821
  generalize k0_pay820 (F := Ideal) C Q k0_pay819 = S
  pointwise
  rfl

/-- The second half's codes. -/
theorem codesB_apply (r x : Fin 256) :
    k0_pay826 (F := Ideal) (k0_pay825 (k0_pay813 X W)) 4294967169#32 127#32 (ix2 r x)
      = codeK (prodAt X W r (lane 1 x)) (runScale (peakAt X W r 1)) := by
  rw [← second_apply, ← scaleB_apply]
  unfold scaleB k0_pay825
  generalize k0_pay824 (F := Ideal) (k0_pay813 X W) = S
  generalize k0_pay823 (F := Ideal) (k0_pay813 X W) = Y
  pointwise [k0_pay826]
  rfl

/-- The lanes of a tile's first half. -/
def halfA : Rect S256x512 := Rect.unit ![0, 0] S256x256.size inb_S256x512_S256x256_0_0
/-- The lanes of a tile's second half. -/
def halfB : Rect S256x512 := Rect.unit ![0, 256] S256x256.size inb_S256x512_S256x256_0_256

/-- A lane of the first half is a point of its rectangle. -/
theorem halfA_emb (r x : Fin 256) : (ix2 r (lane 0 x) : S256x512.Idx) = halfA.emb (ix2 r x : S256x256.Idx) := by
  funext d
  match d with
  | ⟨0, _⟩ => exact Fin.ext (show r.val = 0 + 1 * r.val by omega)
  | ⟨1, _⟩ => exact Fin.ext (show 0 * 256 + x.val = 0 + 1 * x.val by omega)

/-- A lane of the second half is a point of its rectangle. -/
theorem halfB_emb (r x : Fin 256) : (ix2 r (lane 1 x) : S256x512.Idx) = halfB.emb (ix2 r x : S256x256.Idx) := by
  funext d
  match d with
  | ⟨0, _⟩ => exact Fin.ext (show r.val = 0 + 1 * r.val by omega)
  | ⟨1, _⟩ => exact Fin.ext (show 1 * 256 + x.val = 256 + 1 * x.val by omega)

/-- No lane of the first half lies in the second half's rectangle. -/
theorem not_halfB (r x : Fin 256) : (ix2 r (lane 0 x) : S256x512.Idx) ∉ halfB.set := by
  intro hm
  unfold halfB at hm
  have hm' := (Rect.mem_set_unit.mp hm (⟨1, by decide⟩ : Fin S256x512.rank)).1
  have hx : 256 ≤ 0 * 256 + x.val := hm'
  omega

/-- Under both stores, the second half's made last, the second half holds its own store's codes. -/
theorem second_half (b : halfB.shape.Idx → Elt Ideal .i8) (L : List (View.Piece (Elt Ideal) S256x512 .i8)) (r x : Fin 256) :
    canon (⟨halfB, b⟩ :: L) (ix2 r (lane 1 x)) = b (ix2 r x : S256x256.Idx) :=
  (congrArg (canon (⟨halfB, b⟩ :: L)) (halfB_emb r x)).trans (View.canon_cons_emb halfB b L (ix2 r x : S256x256.Idx))

/-- Under both stores the first half keeps its own store's codes. -/
theorem first_half (b : halfB.shape.Idx → Elt Ideal .i8) (a : halfA.shape.Idx → Elt Ideal .i8) (r x : Fin 256) :
    canon [⟨halfB, b⟩, ⟨halfA, a⟩] (ix2 r (lane 0 x)) = a (ix2 r x : S256x256.Idx) :=
  (View.canon_cons_of_not_mem ⟨halfB, b⟩ [⟨halfA, a⟩] (not_halfB r x)).trans
    ((congrArg (canon [⟨halfA, a⟩]) (halfA_emb r x)).trans (View.canon_cons_emb halfA a [] (ix2 r x : S256x256.Idx)))

/-- The codes, as stored. -/
theorem outC_apply (r : Fin 256) (h : Fin 2) (x : Fin 256) :
    outC (F := Ideal) X W (ix2 r (lane h x)) = runCode (prodAt X W r (lane h x)) (runScale (peakAt X W r h)) := by
  refine Eq.trans ?_ (code_eq _ _ (runScale_ne_zero _))
  unfold outC
  rw [ld_allX, ld_allW]
  by_cases e : h = 1
  · subst e
    exact (second_half _ _ r x).trans (codesB_apply X W r x)
  · have e0 : h = 0 := by omega
    subst e0
    exact (first_half _ _ r x).trans (codesA_apply X W r x)

end Cert.KernelIdeal.Hand

end
-- ==== Proof.KernelIdeal.Weights.lean ====
/- The weights a step decodes, entry by entry: entry `(R, o)` is the weight of row `R`, made from column `o`'s bytes. -/
module

public import proofs.«01_k».proof.Proof.KernelIdeal.Step
public import proofs.«01_k».proof.Proof.Values.Spec
public import Idealize.ShloMosaic.Lib.Pipeline.ValueKit

@[expose] public section

set_option maxRecDepth 16384

noncomputable section

namespace Cert.KernelIdeal.Hand

open Cert.KernelIdeal Cert.KernelIdeal.Gen Cert.Values
open Idealize.ShloMosaic
open Idealize.ShloMosaic.TcCoe Idealize.ShloMosaic.Tactic
open Idealize.ShloMosaic.View (ld canon)

variable (X2 : Vec Ideal S24x32x512 .i8) (X3 : Vec Ideal S24x64x512 .i8) (X4 : Vec Ideal S12x24x512 .i8)
  (X5 : Vec Ideal S24x512 .i16) (G : Vec Ideal S16x24x512 .bf16)

/-! ## Rows of the operands -/

theorem drop32 (Y : Vec Ideal S1x32x512 .i8) (b : Fin 32) (o : Fin 512) :
    shapeCast S32x512 Y shapeCasts_S1x32x512_S32x512 (ix2 b o) = Y (ix3 0 b o) := by
  pointwise

theorem drop24 (Y : Vec Ideal S1x24x512 .i8) (n : Fin 24) (o : Fin 512) :
    shapeCast S24x512 Y shapeCasts_S1x24x512_S24x512 (ix2 n o) = Y (ix3 0 n o) := by
  pointwise

theorem rowHm (n : Fin 24) (b : Fin 32) (o : Fin 512) :
    shapeCast S32x512 (ld X2 (rectHm n)) shapeCasts_S1x32x512_S32x512 (ix2 b o) = X2 (ix3 n b o) := by
  refine (drop32 _ b o).trans (View.ld_unit_apply_of X2 _ _ _ _ _ ?_)
  intro a
  fin_cases a <;> simp

theorem rowQs (n : Fin 24) (h : Fin 2) (b : Fin 32) (o : Fin 512) :
    shapeCast S32x512 (ld X3 (rectQs n h)) shapeCasts_S1x32x512_S32x512 (ix2 b o) = X3 (ix3 n ⟨h.val * 32 + b.val, by omega⟩ o) := by
  refine (drop32 _ b o).trans (View.ld_unit_apply_of X3 _ _ _ _ _ ?_)
  intro a
  fin_cases a <;> simp [Nat.mul_comm]

theorem rowSc (s : Fin 12) (n : Fin 24) (o : Fin 512) :
    shapeCast S24x512 (ld X4 (rectSc s)) shapeCasts_S1x24x512_S24x512 (ix2 n o) = X4 (ix3 s n o) := by
  refine (drop24 _ n o).trans (View.ld_unit_apply_of X4 _ _ _ _ _ ?_)
  intro a
  fin_cases a <;> simp

/-! ## The group multipliers -/

theorem shifts8 : ∀ g : Fin 16, BitVec.ofNat 32 (4 * (g.val / 8)) = IntOp.muli (4#32) (BitVec.ofNat 32 (g.val / 8))
    ∧ BitVec.ofNat 32 (2 * (g.val / 4)) = IntOp.muli (2#32) (BitVec.ofNat 32 (g.val / 4))
    ∧ (BitVec.ofNat 32 (4 * (g.val / 8))).toNat < 32 ∧ (BitVec.ofNat 32 (2 * (g.val / 4))).toNat < 32 := by
  decide +kernel

theorem shrsi_unit (u u' : ArithUnit) (x y : BitVec 32) (h : y.toNat < 32) : IntOp.shrsi u x y = IntOp.shrsi u' x y := by
  simp only [IntOp.shrsi, if_pos h]

theorem shli_unit (u u' : ArithUnit) (x y : BitVec 32) (h : y.toNat < 32) : IntOp.shli u x y = IntOp.shli u' x y := by
  simp only [IntOp.shli, if_pos h]

theorem sixBits_apply (g : Fin 16) (n : Fin 24) (o : Fin 512) :
    sixBits (F := Ideal) X4 g (ix2 n o)
      = sixWord (X4 (ix3 ⟨g.val % 8, by omega⟩ n o)) (X4 (ix3 ⟨8 + g.val % 4, by omega⟩ n o)) g := by
  have e : sixBits (F := Ideal) X4 g (ix2 n o)
      = IntOp.subi
          (IntOp.ori
            (IntOp.andi (IntOp.shrsi .vector
              (BitVec.setWidth 32 (shapeCast S24x512 (ld X4 (rectSc ⟨g.val % 8, by omega⟩)) shapeCasts_S1x24x512_S24x512 (ix2 n o)))
              (BitVec.ofNat 32 (4 * (g.val / 8)))) 15#32)
            (IntOp.shli .vector
              (IntOp.andi (IntOp.shrsi .vector
                (BitVec.setWidth 32 (shapeCast S24x512 (ld X4 (rectSc ⟨8 + g.val % 4, by omega⟩)) shapeCasts_S1x24x512_S24x512 (ix2 n o)))
                (BitVec.ofNat 32 (2 * (g.val / 4)))) 3#32) 4#32))
          32#32 := rfl
  obtain ⟨h1, h2, h3, h4⟩ := shifts8 g
  rw [e, rowSc, rowSc, shrsi_unit .vector .host _ _ h3, shrsi_unit .vector .host _ _ h4, shli_unit .vector .host _ _ (by decide), h1, h2]
  rfl

theorem pay3_apply (n : Fin 24) (o : Fin 512) :
    k0_pay3 (F := Ideal) X5 (ix2 n o) = halfValueK (BitVec.setWidth 32 (X5 (ix2 n o))) * Ideal.ofBits .f32 1023410176#32 := by
  pointwise [k0_pay3]
  rfl

theorem gPay_apply (g : Fin 16) (n : Fin 24) (o : Fin 512) :
    gPay (F := Ideal) X4 X5 g (ix3 0 n o)
      = halfValueK (BitVec.setWidth 32 (X5 (ix2 n o))) * Ideal.ofBits .f32 1023410176#32
        * FloatOps.sitofp (F := Ideal) .f32 (sixWord (X4 (ix3 ⟨g.val % 8, by omega⟩ n o)) (X4 (ix3 ⟨8 + g.val % 4, by omega⟩ n o)) g) := by
  have e : ld X5 (Rect.unit ![0, 0] S24x512.size inb_S24x512_S24x512_0_0) = X5 := View.ld_unit_lit _ X5 (by decide)
  have e' : gPay (F := Ideal) X4 X5 g (ix3 0 n o)
      = k0_pay3 (F := Ideal) X5 (ix2 n o) * FloatOps.sitofp (F := Ideal) .f32 (sixBits (F := Ideal) X4 g (ix2 n o)) := by
    pointwise [gPay, e]
  rw [e', pay3_apply, sixBits_apply]

/-- The stores into the group scales' scratch. -/
theorem gPieces_mem : ∀ (k : Nat) (h : k ≤ 16) (p : View.Piece (Elt Ideal) S16x24x512 .bf16),
    p ∈ gPieces X4 X5 k h ↔ ∃ i : Fin 16, i.val < k ∧ p = ⟨rectG i, gPay X4 X5 i⟩
  | 0, h, p => by
    show p ∈ [] ↔ _
    simp
  | k + 1, h, p => by
    show p ∈ ⟨rectG ⟨k, h⟩, gPay X4 X5 ⟨k, h⟩⟩ :: gPieces X4 X5 k (Nat.le_of_succ_le h) ↔ _
    rw [List.mem_cons, gPieces_mem k]
    constructor
    · rintro (rfl | ⟨i, hi, rfl⟩)
      · exact ⟨⟨k, h⟩, Nat.lt_succ_self k, rfl⟩
      · exact ⟨i, Nat.lt_succ_of_lt hi, rfl⟩
    · rintro ⟨i, hi, rfl⟩
      by_cases hk : i.val = k
      · left
        obtain rfl : i = ⟨k, h⟩ := Fin.ext hk
        rfl
      · exact Or.inr ⟨i, by omega, rfl⟩

theorem rectG_val (g : Fin 16) (x : (rectG g).shape.Idx) (a : Fin 3) : ((rectG g).emb x a).val = ![g.val, 0, 0] a + (x a).val := by
  show ![g.val, 0, 0] a + 1 * (x a).val = _
  rw [Nat.one_mul]

/-- The group scales' scratch, once filled. -/
theorem scratchG_apply (h : 16 ≤ 16) (g : Fin 16) (n : Fin 24) (o : Fin 512) :
    canon (gPieces (F := Ideal) X4 X5 16 h) (ix3 g n o) = gPay (F := Ideal) X4 X5 g (ix3 0 n o) := by
  refine View.canon_eq_of_allAt _ _ _ ⟨_, (gPieces_mem X4 X5 16 h _).mpr ⟨g, g.isLt, rfl⟩, ?_⟩ ?_
  · show ix3 g n o ∈ (rectG g).set
    unfold rectG
    refine Rect.mem_set_unit.mpr fun a => ?_
    have := n.isLt
    have := o.isLt
    fin_cases a <;> simp [S1x24x512, Shape.size] <;> omega
  · intro p hp x hx
    obtain ⟨i, -, rfl⟩ := (gPieces_mem X4 X5 16 h p).mp hp
    have c0 : i.val + (x 0).val = g.val := (rectG_val i x 0).symm.trans (congrArg (fun z => (z 0).val) hx)
    have c1 : 0 + (x 1).val = n.val := (rectG_val i x 1).symm.trans (congrArg (fun z => (z 1).val) hx)
    have c2 : 0 + (x 2).val = o.val := (rectG_val i x 2).symm.trans (congrArg (fun z => (z 2).val) hx)
    have x0 : (x 0).val < 1 := (x 0).isLt
    obtain rfl : i = g := Fin.ext (by omega)
    refine congrArg (gPay X4 X5 i) (funext fun a => ?_)
    match a with
    | ⟨0, _⟩ => exact Fin.ext (show (x 0).val = 0 by omega)
    | ⟨1, _⟩ => exact Fin.ext (show (x 1).val = n.val by omega)
    | ⟨2, _⟩ => exact Fin.ext (show (x 2).val = o.val by omega)

/-! ## The codes -/

theorem lowShift_apply (v : IVec S8x512 32) (j : Fin 4) (i : S8x512.Idx) : lowShift v j.val i = lowWord (v i) j.val := by
  fin_cases j <;> rfl

theorem highShift_apply (v : IVec S8x512 32) (f : Fin 8) (i : S8x512.Idx) : highShift v f.val i = highWord (v i) f.val := by
  fin_cases f <;> rfl

theorem not_bit (x : BitVec 32) (i : Nat) (hi : i < 32) : (IntOp.xori x 4294967295#32).getLsbD i = !x.getLsbD i := by
  have e : (4294967295#32 : BitVec 32) = BitVec.allOnes 32 := by decide
  rw [e, IntOp.xori, BitVec.getLsbD_xor, BitVec.getLsbD_allOnes]
  simp [hi]

theorem word_bit (Y : IVec S32x512 8) (b : Fin 32) (o : Fin 512) (i : Nat) (hi : i < 8) :
    (bitcast S8x512 32 Y bitcasts_S32x512_w8_S8x512_w32 (ix2 ⟨b.val / 4, by omega⟩ o)).getLsbD (8 * (b.val % 4) + i)
      = (Y (ix2 b o)).getLsbD i := by
  refine (bitcast_8_32_getLsbD_ix2 (R := 32) (r := 8) (n := 512) Y _ ⟨b.val / 4, by omega⟩ o _ (by omega) b
    (by show b.val = 4 * (b.val / 4) + _; omega)).trans ?_
  congr 1
  omega

theorem hmWords_bit (n : Fin 24) (b : Fin 32) (o : Fin 512) (i : Nat) (hi : i < 8) :
    (hmWords (F := Ideal) X2 n (ix2 ⟨b.val / 4, by omega⟩ o)).getLsbD (8 * (b.val % 4) + i) = !(X2 (ix3 n b o)).getLsbD i :=
  (not_bit _ _ (by omega)).trans (congrArg (fun z => !z) ((word_bit _ b o i hi).trans (congrArg (fun z => BitVec.getLsbD z i) (rowHm X2 n b o))))

theorem qsWords_bit (n : Fin 24) (h : Fin 2) (b : Fin 32) (o : Fin 512) (i : Nat) (hi : i < 8) :
    (qsWords (F := Ideal) X3 n h (ix2 ⟨b.val / 4, by omega⟩ o)).getLsbD (8 * (b.val % 4) + i)
      = (X3 (ix3 n ⟨h.val * 32 + b.val, by omega⟩ o)).getLsbD i :=
  (word_bit _ b o i hi).trans (congrArg (fun z => BitVec.getLsbD z i) (rowQs X3 n h b o))

/-- The codes of a field, as signed bytes. -/
theorem fieldCodes_apply (n : Fin 24) (f : Fin 8) (b : Fin 32) (o : Fin 512) :
    fieldCodes (F := Ideal) X2 X3 n f (ix2 b o)
      = FloatOps.sitofp (F := Ideal) .bf16
          (codeByte (X3 (ix3 n ⟨f.val / 4 * 32 + b.val, by omega⟩ o)) (X2 (ix3 n b o)) ⟨f.val / 4, by omega⟩ ⟨f.val % 4, by omega⟩) := by
  refine congrArg (FloatOps.sitofp (F := Ideal) .bf16) (BitVec.eq_of_getLsbD_eq fun t ht => ?_)
  rw [bitcast_32_8_getLsbD_ix2 (r := 8) (n := 512) _ _ b o t ht ⟨b.val / 4, by omega⟩ rfl]
  rw [← word_getLsbD (qsWords (F := Ideal) X3 n ⟨f.val / 4, by omega⟩ (ix2 ⟨b.val / 4, by omega⟩ o)) (hmWords (F := Ideal) X2 n (ix2 ⟨b.val / 4, by omega⟩ o))
    _ _ ⟨f.val / 4, by omega⟩ ⟨f.val % 4, by omega⟩ (b.val % 4) t (by omega) ht
    (fun i hi => qsWords_bit X3 n ⟨f.val / 4, by omega⟩ b o i hi) (fun i hi => hmWords_bit X2 n b o i hi)]
  have ef : f.val / 4 * 4 + f.val % 4 = f.val := by omega
  simp only [ef]
  rw [← lowShift_apply _ ⟨f.val % 4, by omega⟩, ← highShift_apply _ f]
  rfl

/-! ## The weights -/

/-- The stores into the weights' scratch. -/
theorem wPieces_mem : ∀ (k : Nat) (h : k ≤ 384) (p : View.Piece (Elt Ideal) S6144x512 .bf16),
    p ∈ wPieces X2 X3 G k h ↔ ∃ i : Fin 384, i.val < k ∧ p = ⟨rectW i, wPay X2 X3 G i⟩
  | 0, h, p => by
    show p ∈ [] ↔ _
    simp
  | k + 1, h, p => by
    show p ∈ ⟨rectW ⟨k, h⟩, wPay X2 X3 G ⟨k, h⟩⟩ :: wPieces X2 X3 G k (Nat.le_of_succ_le h) ↔ _
    rw [List.mem_cons, wPieces_mem k]
    constructor
    · rintro (rfl | ⟨i, hi, rfl⟩)
      · exact ⟨⟨k, h⟩, Nat.lt_succ_self k, rfl⟩
      · exact ⟨i, Nat.lt_succ_of_lt hi, rfl⟩
    · rintro ⟨i, hi, rfl⟩
      by_cases hk : i.val = k
      · left
        obtain rfl : i = ⟨k, h⟩ := Fin.ext hk
        rfl
      · exact Or.inr ⟨i, by omega, rfl⟩

theorem wPay_apply (k : Fin 384) (r : Fin 16) (o : Fin 512) :
    wPay (F := Ideal) X2 X3 G k (ix2 r o)
      = fieldCodes (F := Ideal) X2 X3 ⟨k.val / 16, by omega⟩ ⟨k.val / 2 % 8, by omega⟩ (ix2 ⟨16 * (k.val % 2) + r.val, by omega⟩ o)
        * G (ix3 ⟨k.val % 16, by omega⟩ ⟨k.val / 16, by omega⟩ o) := by
  pointwise [wPay, rectGn]

theorem rectW_val (k : Fin 384) (x : (rectW k).shape.Idx) (a : Fin 2) : ((rectW k).emb x a).val = ![16 * k.val, 0] a + (x a).val := by
  show ![16 * k.val, 0] a + 1 * (x a).val = _
  rw [Nat.one_mul]

/-- The weights' scratch, once filled. -/
theorem scratchW_apply (h : 384 ≤ 384) (R : Fin 6144) (o : Fin 512) :
    canon (wPieces (F := Ideal) X2 X3 G 384 h) (ix2 R o)
      = wPay (F := Ideal) X2 X3 G ⟨R.val / 16, by omega⟩ (ix2 ⟨R.val % 16, by omega⟩ o) := by
  refine View.canon_eq_of_allAt _ _ _ ⟨_, (wPieces_mem X2 X3 G 384 h _).mpr ⟨⟨R.val / 16, by omega⟩, by show R.val / 16 < 384; omega, rfl⟩, ?_⟩ ?_
  · show ix2 R o ∈ (rectW ⟨R.val / 16, _⟩).set
    unfold rectW
    refine Rect.mem_set_unit.mpr fun a => ?_
    have := R.isLt
    have := o.isLt
    fin_cases a <;> simp [S16x512, Shape.size] <;> omega
  · intro p hp x hx
    obtain ⟨i, -, rfl⟩ := (wPieces_mem X2 X3 G 384 h p).mp hp
    have c0 : 16 * i.val + (x 0).val = R.val := (rectW_val _ x 0).symm.trans (congrArg (fun z => (z 0).val) hx)
    have c1 : 0 + (x 1).val = o.val := (rectW_val _ x 1).symm.trans (congrArg (fun z => (z 1).val) hx)
    have x0 : (x 0).val < 16 := (x 0).isLt
    have hi : (⟨R.val / 16, by omega⟩ : Fin 384) = i := Fin.ext (by show R.val / 16 = i.val; omega)
    rw [hi]
    refine congrArg (wPay X2 X3 G i) (funext fun a => ?_)
    match a with
    | ⟨0, _⟩ => exact Fin.ext (show (x 0).val = R.val % 16 by omega)
    | ⟨1, _⟩ => exact Fin.ext (show (x 1).val = o.val by omega)

/-- Entry `(R, o)` of the weights a step decodes. -/
theorem weights_apply (R : Fin 6144) (o : Fin 512) :
    weights (F := Ideal) X2 X3 X4 X5 (ix2 R o)
      = weight (X3 (ix3 ⟨R.val / 256, by omega⟩ ⟨R.val / 128 % 2 * 32 + R.val % 32, by omega⟩ o))
          (X2 (ix3 ⟨R.val / 256, by omega⟩ ⟨R.val % 32, by omega⟩ o)) ⟨R.val / 128 % 2, by omega⟩ ⟨R.val / 32 % 4, by omega⟩
          (X5 (ix2 ⟨R.val / 256, by omega⟩ o)) (X4 (ix3 ⟨R.val / 16 % 16 % 8, by omega⟩ ⟨R.val / 256, by omega⟩ o))
          (X4 (ix3 ⟨8 + R.val / 16 % 16 % 4, by omega⟩ ⟨R.val / 256, by omega⟩ o)) ⟨R.val / 16 % 16, by omega⟩ := by
  have e0 : (⟨R.val / 16 / 16, by omega⟩ : Fin 24) = ⟨R.val / 256, by omega⟩ := Fin.ext (by show R.val / 16 / 16 = R.val / 256; omega)
  have e1 : R.val / 16 / 2 % 8 / 4 = R.val / 128 % 2 := by omega
  have e2 : R.val / 16 / 2 % 8 % 4 = R.val / 32 % 4 := by omega
  have e3 : 16 * (R.val / 16 % 2) + R.val % 16 = R.val % 32 := by omega
  unfold weights
  rw [scratchW_apply, wPay_apply, fieldCodes_apply, scratchG_apply, gPay_apply]
  simp only [e0, e1, e2, e3]
  exact weight_eq _ _ _ _ _ _ _ _

end Cert.KernelIdeal.Hand

end
-- ==== Proof.ReferenceIdeal.Terms.lean ====
/- The reference's run, its composed terms cut into named parts: the magnitude and the value of the 16-bit scale, the
   six-bit group scales, the group multipliers, the codes, the weights, the product, the runs' maxima, scales and codes.
   Each part is a copy of the corresponding sub-term of the run's result. -/
module

public import proofs.«01_k».proof.Proof.Gen.ReferenceIdeal.Run

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The value of the 16-bit pattern without its sign. -/
def rMag (A4 : IVec S16384x24 16) : FVec F S16384x24 .f32 :=
  select (cmpi .eq (andi (Host.shrsi (extui 32 A4 natLt_16_32) (broadcastInDim S16384x24 ![] bcast_S_S16384x24 (constantI S_ 32 10#32))) (broadcastInDim S16384x24 ![] bcast_S_S16384x24 (constantI S_ 32 31#32))) (broadcastInDim S16384x24 ![] bcast_S_S16384x24 (constantI S_ 32 0#32))) (mulf (sitofp .f32 (andi (extui 32 A4 natLt_16_32) (broadcastInDim S16384x24 ![] bcast_S_S16384x24 (constantI S_ 32 1023#32)))) (broadcastInDim S16384x24 ![] bcast_S_S16384x24 (constant S_ .f32 0x33800000#32))) (select (cmpi .eq (andi (Host.shrsi (extui 32 A4 natLt_16_32) (broadcastInDim S16384x24 ![] bcast_S_S16384x24 (constantI S_ 32 10#32))) (broadcastInDim S16384x24 ![] bcast_S_S16384x24 (constantI S_ 32 31#32))) (broadcastInDim S16384x24 ![] bcast_S_S16384x24 (constantI S_ 32 31#32))) (id (select (cmpi .eq (andi (extui 32 A4 natLt_16_32) (broadcastInDim S16384x24 ![] bcast_S_S16384x24 (constantI S_ 32 1023#32))) (broadcastInDim S16384x24 ![] bcast_S_S16384x24 (constantI S_ 32 0#32))) (broadcastInDim S16384x24 ![] bcast_S_S16384x24 (constant S_ .f32 0x7F800000#32)) (broadcastInDim S16384x24 ![] bcast_S_S16384x24 (constant S_ .f32 0x7FC00000#32)))) (mulf (mulf (sitofp .f32 (addi (broadcastInDim S16384x24 ![] bcast_S_S16384x24 (constantI S_ 32 1024#32)) (andi (extui 32 A4 natLt_16_32) (broadcastInDim S16384x24 ![] bcast_S_S16384x24 (constantI S_ 32 1023#32))))) (sitofp .f32 (Host.shli (broadcastInDim S16384x24 ![] bcast_S_S16384x24 (constantI S_ 32 1#32)) (andi (Host.shrsi (extui 32 A4 natLt_16_32) (broadcastInDim S16384x24 ![] bcast_S_S16384x24 (constantI S_ 32 10#32))) (broadcastInDim S16384x24 ![] bcast_S_S16384x24 (constantI S_ 32 31#32)))))) (broadcastInDim S16384x24 ![] bcast_S_S16384x24 (constant S_ .f32 0x33000000#32))))

/-- The value of the 16-bit pattern. -/
def rVal (A4 : IVec S16384x24 16) : FVec F S16384x24 .f32 :=
  select (cmpi .eq (Host.shrsi (extui 32 A4 natLt_16_32) (broadcastInDim S16384x24 ![] bcast_S_S16384x24 (constantI S_ 32 15#32))) (broadcastInDim S16384x24 ![] bcast_S_S16384x24 (constantI S_ 32 1#32))) (Host.negf (rMag A4)) (rMag A4)

/-- The six-bit scale of each group, 32 taken away. -/
def rSix (A3 : IVec S16384x24x12 8) : IVec S16384x24x16 32 :=
  subi (ori (shapeCast _ (andi (Host.shrsi (broadcastInDim S16384x24x2x8 ![0, 1, 2, 3] bcast_S16384x24x1x8_S16384x24x2x8_0_1_2_3 (broadcastInDim S16384x24x1x8 ![0, 1, 3] bcast_S16384x24x8_S16384x24x1x8_0_1_3 (extractStridedSlice S16384x24x8 ![0, 0, 0] (extui 32 A3 natLt_8_32) slices_S16384x24x12_S16384x24x8_0_0_0))) (broadcastInDim S16384x24x2x8 ![0, 1, 2, 3] bcast_S1x1x2x1_S16384x24x2x8_0_1_2_3 (broadcastInDim S1x1x2x1 ![2, 3] bcast_S2x1_S1x1x2x1_2_3 (broadcastInDim S2x1 ![0] bcast_S2_S2x1_0 (muli (broadcastInDim S2 ![] bcast_S_S2 (constantI S_ 32 4#32)) (iotaInDim S2 32 0)))))) (broadcastInDim S16384x24x2x8 ![] bcast_S_S16384x24x2x8 (constantI S_ 32 15#32))) shapeCasts_S16384x24x2x8_S16384x24x16) (Host.shli (shapeCast _ (andi (Host.shrsi (broadcastInDim S16384x24x4x4 ![0, 1, 2, 3] bcast_S16384x24x1x4_S16384x24x4x4_0_1_2_3 (broadcastInDim S16384x24x1x4 ![0, 1, 3] bcast_S16384x24x4_S16384x24x1x4_0_1_3 (extractStridedSlice S16384x24x4 ![0, 0, 8] (extui 32 A3 natLt_8_32) slices_S16384x24x12_S16384x24x4_0_0_8))) (broadcastInDim S16384x24x4x4 ![0, 1, 2, 3] bcast_S1x1x4x1_S16384x24x4x4_0_1_2_3 (broadcastInDim S1x1x4x1 ![2, 3] bcast_S4x1_S1x1x4x1_2_3 (broadcastInDim S4x1 ![0] bcast_S4_S4x1_0 (muli (broadcastInDim S4 ![] bcast_S_S4 (constantI S_ 32 2#32)) (iotaInDim S4 32 0)))))) (broadcastInDim S16384x24x4x4 ![] bcast_S_S16384x24x4x4 (constantI S_ 32 3#32))) shapeCasts_S16384x24x4x4_S16384x24x16) (broadcastInDim S16384x24x16 ![] bcast_S_S16384x24x16 (constantI S_ 32 4#32)))) (broadcastInDim S16384x24x16 ![] bcast_S_S16384x24x16 (constantI S_ 32 32#32))

/-- The multiplier of each group. -/
def rGroup (A3 : IVec S16384x24x12 8) (A4 : IVec S16384x24 16) : FVec F S16384x24x16 .bf16 :=
  truncf .bf16 (mulf (broadcastInDim S16384x24x16 ![0, 1, 2] bcast_S16384x24x1_S16384x24x16_0_1_2 (broadcastInDim S16384x24x1 ![0, 1] bcast_S16384x24_S16384x24x1_0_1 (rVal A4))) (sitofp .f32 (rSix A3))) bitsLt_bf16_f32

/-- The three-bit code of each weight, 4 taken away. -/
def rCode (A1 : IVec S16384x24x32 8) (A2 : IVec S16384x24x64 8) : IVec S16384x24x2x4x32 32 :=
  subi (addi (andi (Host.shrsi (broadcastInDim S16384x24x2x4x32 ![0, 1, 2, 3, 4] bcast_S16384x24x2x1x32_S16384x24x2x4x32_0_1_2_3_4 (shapeCast _ (extui 32 A2 natLt_8_32) shapeCasts_S16384x24x64_S16384x24x2x1x32)) (broadcastInDim S16384x24x2x4x32 ![0, 1, 2, 3, 4] bcast_S1x1x1x4x1_S16384x24x2x4x32_0_1_2_3_4 (broadcastInDim S1x1x1x4x1 ![3, 4] bcast_S4x1_S1x1x1x4x1_3_4 (broadcastInDim S4x1 ![0] bcast_S4_S4x1_0 (muli (broadcastInDim S4 ![] bcast_S_S4 (constantI S_ 32 2#32)) (iotaInDim S4 32 0)))))) (broadcastInDim S16384x24x2x4x32 ![] bcast_S_S16384x24x2x4x32 (constantI S_ 32 3#32))) (muli (broadcastInDim S16384x24x2x4x32 ![] bcast_S_S16384x24x2x4x32 (constantI S_ 32 4#32)) (shapeCast _ (andi (Host.shrsi (broadcastInDim S16384x24x8x32 ![0, 1, 2, 3] bcast_S16384x24x1x32_S16384x24x8x32_0_1_2_3 (broadcastInDim S16384x24x1x32 ![0, 1, 3] bcast_S16384x24x32_S16384x24x1x32_0_1_3 (extui 32 A1 natLt_8_32))) (broadcastInDim S16384x24x8x32 ![0, 1, 2, 3] bcast_S1x1x8x1_S16384x24x8x32_0_1_2_3 (broadcastInDim S1x1x8x1 ![2, 3] bcast_S8x1_S1x1x8x1_2_3 (broadcastInDim S8x1 ![0] bcast_S8_S8x1_0 (iotaInDim S8 32 0))))) (broadcastInDim S16384x24x8x32 ![] bcast_S_S16384x24x8x32 (constantI S_ 32 1#32))) shapeCasts_S16384x24x8x32_S16384x24x2x4x32))) (broadcastInDim S16384x24x2x4x32 ![] bcast_S_S16384x24x2x4x32 (constantI S_ 32 4#32))

/-- The weights. -/
def rW (A1 : IVec S16384x24x32 8) (A2 : IVec S16384x24x64 8) (A3 : IVec S16384x24x12 8) (A4 : IVec S16384x24 16) : FVec F S16384x6144 .bf16 :=
  shapeCast _ (mulf (shapeCast _ (sitofp .bf16 (rCode A1 A2)) shapeCasts_S16384x24x2x4x32_S16384x24x16x16) (broadcastInDim S16384x24x16x16 ![0, 1, 2, 3] bcast_S16384x24x16x1_S16384x24x16x16_0_1_2_3 (broadcastInDim S16384x24x16x1 ![0, 1, 2] bcast_S16384x24x16_S16384x24x16x1_0_1_2 (rGroup A3 A4)))) shapeCasts_S16384x24x16x16_S16384x6144

/-- The product of the activations and the weights. -/
def rY (A0 : FVec F S1x256x6144 .bf16) (A1 : IVec S16384x24x32 8) (A2 : IVec S16384x24x64 8) (A3 : IVec S16384x24x12 8) (A4 : IVec S16384x24 16) : FVec F S1x256x16384 .f32 :=
  Host.dotGeneral dot_S1x256x6144_S16384x6144_S1x256x16384_2_1_01_0_n_n none A0 (rW A1 A2 A3 A4)

/-- The greatest magnitude of each run of 256 columns. -/
def rMax (Y : FVec F S1x256x16384 .f32) : FVec F S1x256x64 .f32 :=
  Host.reduce FloatOps.maximumf (Host.absf (shapeCast _ Y shapeCasts_S1x256x16384_S1x256x64x256)) (constant S_ .f32 0xFF800000#32) reducesTo_S1x256x64x256_S1x256x64_d3 h_S_

/-- The scale of each run, of its greatest magnitude. -/
def rScale (M : FVec F S1x256x64 .f32) : FVec F S1x256x64 .f32 :=
  select (cmpf .oeq M (broadcastInDim S1x256x64 ![] bcast_S_S1x256x64 (constant S_ .f32 0x00000000#32))) (broadcastInDim S1x256x64 ![] bcast_S_S1x256x64 (id (constant S_ .f32 0x3F800000#32))) (Host.divf M (broadcastInDim S1x256x64 ![] bcast_S_S1x256x64 (constant S_ .f32 0x42FE0000#32)))

/-- The codes, of the product and the scales. -/
def rOut (Y : FVec F S1x256x16384 .f32) (S : FVec F S1x256x64 .f32) : IVec S1x256x16384 8 :=
  shapeCast _ (trunci 8 (fptosi 32 (minimumf (broadcastInDim S1x256x64x256 ![] bcast_S_S1x256x64x256 (sitofp .f32 (constantI S_ 32 127#32))) (maximumf (broadcastInDim S1x256x64x256 ![] bcast_S_S1x256x64x256 (sitofp .f32 (constantI S_ 32 4294967169#32))) (Host.roundeven (Host.divf (shapeCast _ Y shapeCasts_S1x256x16384_S1x256x64x256) (broadcastInDim S1x256x64x256 ![0, 1, 2, 3] bcast_S1x256x64x1_S1x256x64x256_0_1_2_3 (broadcastInDim S1x256x64x1 ![0, 1, 2] bcast_S1x256x64_S1x256x64x1_0_1_2 (S)))))))) natLt_8_32) shapeCasts_S1x256x64x256_S1x256x16384

variable (m : (ℓ : Loc nD τ sig) → Buf (Elt F) ℓ) (c : Dev nD)

/-- The product, of the memory the run starts in. -/
abbrev yOf : FVec F S1x256x16384 .f32 := rY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The first result is the product, rounded. -/
theorem res0 : Value.res_out0 m c = truncf .bf16 (yOf m c) bitsLt_bf16_f32 := rfl

/-- The second result is the codes. -/
theorem res1 : Value.res_out1 m c = rOut (yOf m c) (rScale (rMax (yOf m c))) := rfl

/-- The third result is the scales. -/
theorem res2 : Value.res_out2 m c = rScale (rMax (yOf m c)) := rfl

end Cert.ReferenceIdeal.Hand

end
-- ==== Proof.ReferenceIdeal.Value.lean ====
/- What the reference computes, entry by entry. -/
module

public import proofs.«01_k».proof.Proof.ReferenceIdeal.Terms
public import proofs.«01_k».proof.Proof.Values.Spec

@[expose] public section

set_option maxRecDepth 16384

noncomputable section

namespace Cert.ReferenceIdeal.Hand

open Cert.ReferenceIdeal Cert.ReferenceIdeal.Gen Cert.Values
open Idealize.ShloMosaic

variable (A0 : FVec Ideal S1x256x6144 .bf16) (A1 : IVec S16384x24x32 8) (A2 : IVec S16384x24x64 8) (A3 : IVec S16384x24x12 8)
  (A4 : IVec S16384x24 16) (Y : FVec Ideal S1x256x16384 .f32) (M S : FVec Ideal S1x256x64 .f32)

theorem rMag_apply (o : Fin 16384) (n : Fin 24) :
    rMag (F := Ideal) A4 (ix2 o n) = halfMag (BitVec.setWidth 32 (A4 (ix2 o n))) := rfl

theorem rVal_apply (o : Fin 16384) (n : Fin 24) :
    rVal (F := Ideal) A4 (ix2 o n) = halfValue (BitVec.setWidth 32 (A4 (ix2 o n))) := rfl

theorem rSix_apply (o : Fin 16384) (n : Fin 24) (g : Fin 16) :
    rSix A3 (ix3 o n g) = sixWord (A3 (ix3 o n ⟨g.val % 8, by omega⟩)) (A3 (ix3 o n ⟨8 + g.val % 4, by omega⟩)) g := by
  pointwise [rSix]
  rfl

theorem rGroup_apply (o : Fin 16384) (n : Fin 24) (g : Fin 16) :
    rGroup (F := Ideal) A3 A4 (ix3 o n g) = rVal (F := Ideal) A4 (ix2 o n) * FloatOps.sitofp (F := Ideal) .f32 (rSix A3 (ix3 o n g)) := by
  pointwise [rGroup]

theorem rCode_apply (o : Fin 16384) (n : Fin 24) (h : Fin 2) (j : Fin 4) (b : Fin 32) :
    rCode A1 A2 (ix5 o n h j b) = codeWord (A2 (ix3 o n ⟨h.val * 32 + b.val, by omega⟩)) (A1 (ix3 o n b)) h j := by
  pointwise [rCode]
  rfl

theorem rW_split (o : Fin 16384) (R : Fin 6144) :
    rW (F := Ideal) A1 A2 A3 A4 (ix2 o R)
      = FloatOps.sitofp (F := Ideal) .bf16
          (rCode A1 A2 (ix5 o ⟨R.val / 256, by omega⟩ ⟨R.val / 16 % 16 / 8, by omega⟩ ⟨R.val / 16 % 16 / 2 % 4, by omega⟩
            ⟨R.val / 16 % 16 % 2 * 16 + R.val % 16, by omega⟩))
        * rGroup (F := Ideal) A3 A4 (ix3 o ⟨R.val / 256, by omega⟩ ⟨R.val / 16 % 16, by omega⟩) := by
  pointwise [rW]

/-- The weight in row `o`, column `R`. -/
theorem rW_apply (o : Fin 16384) (R : Fin 6144) :
    rW (F := Ideal) A1 A2 A3 A4 (ix2 o R)
      = weight (A2 (ix3 o ⟨R.val / 256, by omega⟩ ⟨R.val / 128 % 2 * 32 + R.val % 32, by omega⟩))
          (A1 (ix3 o ⟨R.val / 256, by omega⟩ ⟨R.val % 32, by omega⟩)) ⟨R.val / 128 % 2, by omega⟩ ⟨R.val / 32 % 4, by omega⟩
          (A4 (ix2 o ⟨R.val / 256, by omega⟩)) (A3 (ix3 o ⟨R.val / 256, by omega⟩ ⟨R.val / 16 % 16 % 8, by omega⟩))
          (A3 (ix3 o ⟨R.val / 256, by omega⟩ ⟨8 + R.val / 16 % 16 % 4, by omega⟩)) ⟨R.val / 16 % 16, by omega⟩ := by
  rw [rW_split, rCode_apply, rGroup_apply, rVal_apply, rSix_apply]
  have e1 : (⟨R.val / 16 % 16 / 8, by omega⟩ : Fin 2) = ⟨R.val / 128 % 2, by omega⟩ := Fin.ext (by show R.val / 16 % 16 / 8 = R.val / 128 % 2; omega)
  have e2 : (⟨R.val / 16 % 16 / 2 % 4, by omega⟩ : Fin 4) = ⟨R.val / 32 % 4, by omega⟩ := Fin.ext (by show R.val / 16 % 16 / 2 % 4 = R.val / 32 % 4; omega)
  have e3 : (⟨R.val / 16 % 16 % 2 * 16 + R.val % 16, by omega⟩ : Fin 32) = ⟨R.val % 32, by omega⟩ :=
    Fin.ext (by show R.val / 16 % 16 % 2 * 16 + R.val % 16 = R.val % 32; omega)
  rw [e1, e2, e3]
  rfl

/-- The product. -/
theorem rY_apply (b : Fin 1) (r : Fin 256) (o : Fin 16384) :
    rY (F := Ideal) A0 A1 A2 A3 A4 (ix3 b r o) = ∑ x, A0 (ix3 b r x) * rW (F := Ideal) A1 A2 A3 A4 (ix2 o x) := by
  pointwise [rY]

/-- The greatest magnitude of a run. -/
theorem rMax_apply (b : Fin 1) (r : Fin 256) (l : Fin 64) :
    rMax Y (ix3 b r l) = Finset.fold max (Ideal.ofBits FTy.f32 4286578688#32)
      (fun x : Fin 256 => FloatOps.absf (F := Ideal) (φ := .f32) (Y (ix3 0 r ⟨l.val * 256 + x.val, by omega⟩))) Finset.univ := by
  pointwise [rMax]

/-- The scale of a run. -/
theorem rScale_apply (b : Fin 1) (r : Fin 256) (l : Fin 64) : rScale M (ix3 b r l) = runScale (M (ix3 b r l)) := by
  pointwise [rScale, id]
  rfl

/-- The codes. -/
theorem rOut_apply (b : Fin 1) (r : Fin 256) (o : Fin 16384) :
    rOut Y S (ix3 b r o) = runCode (Y (ix3 0 r o)) (S (ix3 0 r ⟨o.val / 256, by omega⟩)) := by
  pointwise [rOut]
  rfl

end Cert.ReferenceIdeal.Hand

end
-- ==== Proof.KernelIdeal.Arrays.lean ====
/- What the result arrays hold after the run: the reference's terms over the arguments. -/
module

public import proofs.«01_k».proof.Proof.KernelIdeal.Frame
public import proofs.«01_k».proof.Proof.KernelIdeal.Tiles
public import proofs.«01_k».proof.Proof.KernelIdeal.Weights
public import proofs.«01_k».proof.Proof.ReferenceIdeal.Value
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen Cert.Values
open Idealize.ShloMosaic
open Idealize.ShloMosaic.TcCoe Idealize.ShloMosaic.Tactic
open Idealize.ShloMosaic.Pipeline (Dat)
open Cert.ReferenceIdeal.Hand (rW rY rMax rScale rOut)

variable (m : (ℓ : Loc nD τ sig) → Buf (Elt Ideal) ℓ)

/-- Where point `t`'s blocks lie: the activations and the scales' result whole, everything else at step `t` of the last axis. -/
theorem idx : ∀ t : Fin cfg0.N, win0_0.index t = ![0, 0] ∧ win0_1.index t = ![0, 0, t.val] ∧ win0_2.index t = ![0, 0, t.val]
    ∧ win0_3.index t = ![0, 0, t.val] ∧ win0_4.index t = ![0, t.val] ∧ win0_5.index t = ![0, t.val] ∧ win0_6.index t = ![0, t.val]
    ∧ win0_7.index t = ![0, 0] :=
  (by decide +kernel : ∀ t : Fin grid0.N, _)

/-- Output column `o` of point `t`'s tile. -/
def col (t : Fin cfg0.N) (o : Fin 512) : Fin 16384 :=
  ⟨t.val * 512 + o.val, by have := t.isLt; have := N_0; have : t.val < grid0.N := t.isLt; omega⟩

/-! ### The operands, as the host lays them out -/

/-- The activations, one row per token. -/
theorem v0_eq (c : Dev nD) : V m c main_v0 = shapeCast S256x6144 (m ((c : Thread nD τ).loc main_arg0) : Vec Ideal S1x256x6144 .bf16) shapeCasts_S1x256x6144_S256x6144 := by
  show StableHlo.after hostOps0 (fun b => m (c, b)) (Proc.tc.devRef main_v0) = _
  entry_read
  rfl

/-- The high bits, output columns last. -/
theorem v1_eq (c : Dev nD) : V m c main_v1 = transpose S24x32x16384 [1, 2, 0] (m ((c : Thread nD τ).loc main_arg1) : Vec Ideal S16384x24x32 .i8) transposes_S16384x24x32_S24x32x16384_1_2_0 := by
  show StableHlo.after hostOps0 (fun b => m (c, b)) (Proc.tc.devRef main_v1) = _
  entry_read
  rfl

/-- The low bits, output columns last. -/
theorem v2_eq (c : Dev nD) : V m c main_v2 = transpose S24x64x16384 [1, 2, 0] (m ((c : Thread nD τ).loc main_arg2) : Vec Ideal S16384x24x64 .i8) transposes_S16384x24x64_S24x64x16384_1_2_0 := by
  show StableHlo.after hostOps0 (fun b => m (c, b)) (Proc.tc.devRef main_v2) = _
  entry_read
  rfl

/-- The group scales' bytes, output columns last. -/
theorem v3_eq (c : Dev nD) : V m c main_v3 = transpose S12x24x16384 [2, 1, 0] (m ((c : Thread nD τ).loc main_arg3) : Vec Ideal S16384x24x12 .i8) transposes_S16384x24x12_S12x24x16384_2_1_0 := by
  show StableHlo.after hostOps0 (fun b => m (c, b)) (Proc.tc.devRef main_v3) = _
  entry_read
  rfl

/-- The block scales' bits, output columns last. -/
theorem v4_eq (c : Dev nD) : V m c main_v4 = transpose S24x16384 [1, 0] (m ((c : Thread nD τ).loc main_arg4) : Vec Ideal S16384x24 .i16) transposes_S16384x24_S24x16384_1_0 := by
  show StableHlo.after hostOps0 (fun b => m (c, b)) (Proc.tc.devRef main_v4) = _
  entry_read
  rfl

/-! ### The blocks a step loads, entry by entry -/

/-- Dropping the batch axis. -/
theorem flat_apply (X : Vec Ideal S1x256x6144 .bf16) (r : Fin 256) (x : Fin 6144) :
    shapeCast S256x6144 X shapeCasts_S1x256x6144_S256x6144 (ix2 r x) = X (ix3 0 r x) := by
  pointwise

/-- The activations' block is the whole array. -/
theorem x_emb (t : Fin cfg0.N) (r : Fin 256) (x : Fin 6144) :
    (((cfg0.win 0).blk t).view.emb (ix2 r x) : S256x6144.Idx) = ix2 r x := by
  blk_ext [idx t]

/-- The activations a step loads. -/
theorem x_at (c : Dev nD) (t : Fin cfg0.N) (r : Fin 256) (x : Fin 6144) :
    xAt m c t (ix2 r x) = m ((c : Thread nD τ).loc main_arg0) (ix3 0 r x) := by
  show V m c main_v0 (((cfg0.win 0).blk t).view.emb (ix2 r x)) = _
  rw [v0_eq, x_emb]
  exact flat_apply _ r x

/-- The high bits a step loads. -/
theorem hm_at (c : Dev nD) (t : Fin cfg0.N) (n : Fin 24) (b : Fin 32) (o : Fin 512) :
    (iblk m c 1 t : Vec Ideal S24x32x512 .i8) (ix3 n b o) = m ((c : Thread nD τ).loc main_arg1) (ix3 (col t o) n b) := by
  show V m c main_v1 (((cfg0.win 1).blk t).view.emb (ix3 n b o)) = _
  rw [v1_eq]
  pointwise
  blk_ext [idx t, col]

/-- The low bits a step loads. -/
theorem qs_at (c : Dev nD) (t : Fin cfg0.N) (n : Fin 24) (b : Fin 64) (o : Fin 512) :
    (iblk m c 2 t : Vec Ideal S24x64x512 .i8) (ix3 n b o) = m ((c : Thread nD τ).loc main_arg2) (ix3 (col t o) n b) := by
  show V m c main_v2 (((cfg0.win 2).blk t).view.emb (ix3 n b o)) = _
  rw [v2_eq]
  pointwise
  blk_ext [idx t, col]

/-- The group scales' bytes a step loads. -/
theorem sc_at (c : Dev nD) (t : Fin cfg0.N) (b : Fin 12) (n : Fin 24) (o : Fin 512) :
    (iblk m c 3 t : Vec Ideal S12x24x512 .i8) (ix3 b n o) = m ((c : Thread nD τ).loc main_arg3) (ix3 (col t o) n b) := by
  show V m c main_v3 (((cfg0.win 3).blk t).view.emb (ix3 b n o)) = _
  rw [v3_eq]
  pointwise
  blk_ext [idx t, col]

/-- The block scales' bits a step loads. -/
theorem d_at (c : Dev nD) (t : Fin cfg0.N) (n : Fin 24) (o : Fin 512) :
    (iblk m c 4 t : Vec Ideal S24x512 .i16) (ix2 n o) = m ((c : Thread nD τ).loc main_arg4) (ix2 (col t o) n) := by
  show V m c main_v4 (((cfg0.win 4).blk t).view.emb (ix2 n o)) = _
  rw [v4_eq]
  pointwise
  blk_ext [idx t, col]

/-! ### A step's product is the reference's -/

/-- The reference's product over the kernel's arguments. -/
def refY (c : Dev nD) : FVec Ideal S1x256x16384 .f32 :=
  rY (m ((c : Thread nD τ).loc main_arg0)) (m ((c : Thread nD τ).loc main_arg1)) (m ((c : Thread nD τ).loc main_arg2))
    (m ((c : Thread nD τ).loc main_arg3)) (m ((c : Thread nD τ).loc main_arg4))

/-- A step's decoded weights are the reference's, at the step's output columns. -/
theorem w_at (c : Dev nD) (t : Fin cfg0.N) (R : Fin 6144) (o : Fin 512) :
    wAt m c t (ix2 R o) = rW (F := Ideal) (m ((c : Thread nD τ).loc main_arg1)) (m ((c : Thread nD τ).loc main_arg2))
      (m ((c : Thread nD τ).loc main_arg3)) (m ((c : Thread nD τ).loc main_arg4)) (ix2 (col t o) R) := by
  unfold wAt
  rw [weights_apply, Cert.ReferenceIdeal.Hand.rW_apply, hm_at, qs_at, sc_at, sc_at, d_at]

/-- A step's product is the reference's, at the step's output columns. -/
theorem prod_at (c : Dev nD) (t : Fin cfg0.N) (r : Fin 256) (o : Fin 512) :
    prodAt (xAt m c t) (wAt m c t) r o = refY m c (ix3 0 r (col t o)) := by
  unfold refY prodAt
  refine Eq.trans ?_ (Cert.ReferenceIdeal.Hand.rY_apply _ _ _ _ _ 0 r (col t o)).symm
  refine Finset.sum_congr rfl fun x _ => ?_
  rw [x_at, w_at]

/-- Column `l` of the scales belongs to point `l / 2`, half `l % 2`. -/
def run (t : Fin cfg0.N) (h : Fin 2) : Fin 64 :=
  ⟨t.val * 2 + h.val, by have := N_0; have : t.val < grid0.N := t.isLt; omega⟩

/-- The greatest magnitude of a run of 256 columns is the reference's. -/
theorem peak_at (c : Dev nD) (t : Fin cfg0.N) (r : Fin 256) (h : Fin 2) :
    peakAt (xAt m c t) (wAt m c t) r h = rMax (refY m c) (ix3 0 r (run t h)) := by
  unfold peakAt
  refine Eq.trans ?_ (Cert.ReferenceIdeal.Hand.rMax_apply _ 0 r (run t h)).symm
  refine congrArg (fun f => Finset.fold max (Ideal.ofBits FTy.f32 4286578688#32) f Finset.univ) (funext fun x => ?_)
  rw [prod_at]
  refine congrArg (fun k => FloatOps.absf (F := Ideal) (φ := .f32) (refY m c (ix3 0 r k))) (Fin.ext ?_)
  show t.val * 512 + (h.val * 256 + x.val) = (t.val * 2 + h.val) * 256 + x.val
  omega

/-- The product, as stored, is the reference's. -/
theorem y_at (c : Dev nD) (t : Fin cfg0.N) (r : Fin 256) (o : Fin 512) :
    outY (xAt m c t) (wAt m c t) (ix2 r o) = refY m c (ix3 0 r (col t o)) := by
  rw [outY_apply, prod_at]

/-- The scales of a step are the reference's. -/
theorem s_at (c : Dev nD) (t : Fin cfg0.N) (r : Fin 256) (h : Fin 2) :
    runScale (peakAt (xAt m c t) (wAt m c t) r h) = rScale (rMax (refY m c)) (ix3 0 r (run t h)) := by
  rw [peak_at]
  exact (Cert.ReferenceIdeal.Hand.rScale_apply _ 0 r (run t h)).symm

/-- The codes, as stored, are the reference's. -/
theorem c_at (c : Dev nD) (t : Fin cfg0.N) (r : Fin 256) (o : Fin 512) :
    outC (xAt m c t) (wAt m c t) (ix2 r o) = rOut (refY m c) (rScale (rMax (refY m c))) (ix3 0 r (col t o)) := by
  have eo : o = lane ⟨o.val / 256, by omega⟩ ⟨o.val % 256, by omega⟩ := Fin.ext (show o.val = o.val / 256 * 256 + o.val % 256 by omega)
  rw [eo, outC_apply, ← eo, s_at, prod_at]
  refine Eq.trans ?_ (Cert.ReferenceIdeal.Hand.rOut_apply _ _ 0 r (col t o)).symm
  refine congrArg (fun k => runCode (refY m c (ix3 0 r (col t o))) (rScale (rMax (refY m c)) (ix3 0 r k))) (Fin.ext ?_)
  show t.val * 2 + o.val / 256 = (t.val * 512 + o.val) / 256
  omega

/-- The scales' rows are the reference's scales. -/
theorem rows_at (c : Dev nD) (l : Fin 64) (r : Fin 256) :
    scaleRows m c (ix2 l r) = rScale (rMax (refY m c)) (ix3 0 r l) := by
  have hl := l.isLt
  show scaleAt m c l r = _
  unfold scaleAt
  by_cases h : l.val % 2 = 1
  · rw [if_pos h, scaleB_apply, s_at]
    refine congrArg (fun k => rScale (rMax (refY m c)) (ix3 0 r k)) (Fin.ext ?_)
    show l.val / 2 * 2 + 1 = l.val
    omega
  · rw [if_neg h, scaleA_apply, s_at]
    refine congrArg (fun k => rScale (rMax (refY m c)) (ix3 0 r k)) (Fin.ext ?_)
    show l.val / 2 * 2 + 0 = l.val
    omega

/-! ### The result arrays after the run -/

/-- A tile's index by its coordinates. -/
theorem ix2_eta (y : S256x512.Idx) : y = ix2 (y 0 : Fin 256) (y 1 : Fin 512) := by
  funext a
  match a with
  | ⟨0, _⟩ => rfl
  | ⟨1, _⟩ => rfl

/-- After the run the first array holds the reference's product. -/
theorem array_y (c : Dev nD) :
    (dats m 0 c).arrAt 5 cfg0.N = (fun i => refY m c (ix3 0 (i 0) (i 1)) : Vec Ideal S256x16384 .bf16) := by
  refine (dats m 0 c).arrAt_eq_of_covers 5 _ (by decide +kernel) fun t _ y => ?_
  blk_simp
  rw [after5]
  refine ((congrArg (outY (xAt m c t) (wAt m c t)) (ix2_eta y)).trans (y_at m c t (y 0) (y 1))).trans ?_
  refine congrArg (refY m c) ?_
  blk_ext [idx t, col]

/-- After the run the second array holds the reference's codes. -/
theorem array_c (c : Dev nD) :
    (dats m 0 c).arrAt 6 cfg0.N = (fun i => rOut (refY m c) (rScale (rMax (refY m c))) (ix3 0 (i 0) (i 1)) : Vec Ideal S256x16384 .i8) := by
  refine (dats m 0 c).arrAt_eq_of_covers 6 _ (by decide +kernel) fun t _ y => ?_
  blk_simp
  rw [after6]
  refine ((congrArg (outC (xAt m c t) (wAt m c t)) (ix2_eta y)).trans (c_at m c t (y 0) (y 1))).trans ?_
  refine congrArg (rOut (refY m c) (rScale (rMax (refY m c)))) ?_
  blk_ext [idx t, col]

/-- The last point. -/
def lastPt : Fin cfg0.N := ⟨31, (by decide +kernel : 31 < grid0.N)⟩

/-- After the run the third array holds the reference's scales, one row per run of columns. -/
theorem array_s (c : Dev nD) :
    (dats m 0 c).arrAt 7 cfg0.N = (fun i => rScale (rMax (refY m c)) (ix3 0 (i 1) (i 0)) : Vec Ideal S64x256 .f32) := by
  refine (dats m 0 c).arrAt_eq_of_after_last 7 lastPt (by decide +kernel) _ fun j => ?_
  rw [after7]
  blk_simp
  exact rows_at m c (j 0) (j 1)

end Cert.KernelIdeal.Hand
-- ==== Proof.KernelIdeal.Results.lean ====
/- The results of the whole program: the host's reshapes and transpose of the arrays the kernel leaves. -/
module

public import proofs.«01_k».proof.Proof.KernelIdeal.Arrays

@[expose] public section

set_option maxRecDepth 16384

noncomputable section

namespace Cert.KernelIdeal.Hand

open Cert.KernelIdeal Cert.KernelIdeal.Gen Cert.Values
open Idealize.ShloMosaic Idealize.SL.Sem
open Idealize.ShloMosaic.TcCoe Idealize.ShloMosaic.Tactic
open Cert.ReferenceIdeal.Hand (rW rY rMax rScale rOut)

variable (m : (ℓ : Loc nD τ sig) → Buf (Elt Ideal) ℓ)

/-- Memory after the kernel, before the last host operations. -/
def left (c : Dev nD) : Valuation τ sig (Elt Ideal) :=
  Pipeline.withArrays (cfgs 0).spec c (V0 m c) fun w => (dats m 0 c).arrAt w (cfgs 0).N

/-- The windows' arrays are different buffers. -/
theorem arrs_inj : Function.Injective (Pipeline.arrRef (cfgs 0).spec) :=
  (by decide : Function.Injective (Pipeline.arrRef spec0))

/-- The product's array. -/
theorem left_y (c : Dev nD) : left m c (Proc.tc.devRef main_v5_0) = (fun i => refY m c (ix3 0 (i 0) (i 1)) : Vec Ideal S256x16384 .bf16) :=
  (Pipeline.withArrays_arr (cfgs 0).spec arrs_inj c (V0 m c) _ 5).trans (array_y m c)

/-- The codes' array. -/
theorem left_c (c : Dev nD) : left m c (Proc.tc.devRef main_v5_1) = (fun i => rOut (refY m c) (rScale (rMax (refY m c))) (ix3 0 (i 0) (i 1)) : Vec Ideal S256x16384 .i8) :=
  (Pipeline.withArrays_arr (cfgs 0).spec arrs_inj c (V0 m c) _ 6).trans (array_c m c)

/-- The scales' array. -/
theorem left_s (c : Dev nD) : left m c (Proc.tc.devRef main_v5_2) = (fun i => rScale (rMax (refY m c)) (ix3 0 (i 1) (i 0)) : Vec Ideal S64x256 .f32) :=
  (Pipeline.withArrays_arr (cfgs 0).spec arrs_inj c (V0 m c) _ 7).trans (array_s m c)

/-! ### The host's last lines, entry by entry -/

/-- An index of an array with one batch, by its coordinates. -/
theorem idx3_eta {a b : Nat} (i : (⟨3, ![1, a, b]⟩ : Shape).Idx) : i = ix3 (0 : Fin 1) (i 1 : Fin a) (i 2 : Fin b) := by
  funext d
  match d with
  | ⟨0, _⟩ => exact Fin.ext (by have h : (i 0).val < 1 := (i 0).isLt; show (i 0).val = 0; omega)
  | ⟨1, _⟩ => rfl
  | ⟨2, _⟩ => rfl

/-- Adding the batch axis to the product. -/
theorem lift_y (Y : Vec Ideal S1x256x16384 .bf16) :
    shapeCast S1x256x16384 (fun i => Y (ix3 0 (i 0) (i 1)) : Vec Ideal S256x16384 .bf16) shapeCasts_S256x16384_S1x256x16384 = Y := by
  have e : ∀ (r : Fin 256) (o : Fin 16384), shapeCast S1x256x16384 (fun i => Y (ix3 0 (i 0) (i 1)) : Vec Ideal S256x16384 .bf16)
      shapeCasts_S256x16384_S1x256x16384 (ix3 0 r o) = Y (ix3 0 r o) := by
    intro r o
    pointwise
  funext i
  rw [idx3_eta i]
  exact e _ _

/-- Adding the batch axis to the codes. -/
theorem lift_c (Y : Vec Ideal S1x256x16384 .i8) :
    shapeCast S1x256x16384 (fun i => Y (ix3 0 (i 0) (i 1)) : Vec Ideal S256x16384 .i8) shapeCasts_S256x16384_S1x256x16384 = Y := by
  have e : ∀ (r : Fin 256) (o : Fin 16384), shapeCast S1x256x16384 (fun i => Y (ix3 0 (i 0) (i 1)) : Vec Ideal S256x16384 .i8)
      shapeCasts_S256x16384_S1x256x16384 (ix3 0 r o) = Y (ix3 0 r o) := by
    intro r o
    pointwise
  funext i
  rw [idx3_eta i]
  exact e _ _

/-- Transposing the scales and adding the batch axis. -/
theorem lift_s (S : Vec Ideal S1x256x64 .f32) :
    shapeCast S1x256x64 (transpose S256x64 [1, 0] (fun i => S (ix3 0 (i 1) (i 0)) : Vec Ideal S64x256 .f32) transposes_S64x256_S256x64_1_0)
      shapeCasts_S256x64_S1x256x64 = S := by
  have e : ∀ (r : Fin 256) (l : Fin 64), shapeCast S1x256x64
      (transpose S256x64 [1, 0] (fun i => S (ix3 0 (i 1) (i 0)) : Vec Ideal S64x256 .f32) transposes_S64x256_S256x64_1_0)
      shapeCasts_S256x64_S1x256x64 (ix3 0 r l) = S (ix3 0 r l) := by
    intro r l
    pointwise
  funext i
  rw [idx3_eta i]
  exact e _ _

/-- The first result is the reference's product. -/
theorem result_y (c : Dev nD) : Pipeline.afterTail₀ cfgs (dats m) 0 (V0 m) [hostOps1] c main_v6 = refY m c := by
  show StableHlo.after hostOps1 (left m c) (Proc.tc.devRef main_v6) = _
  entry_read
  rw [left_y]
  exact lift_y _

/-- The second result is the reference's codes. -/
theorem result_c (c : Dev nD) : Pipeline.afterTail₀ cfgs (dats m) 0 (V0 m) [hostOps1] c main_v7 = rOut (refY m c) (rScale (rMax (refY m c))) := by
  show StableHlo.after hostOps1 (left m c) (Proc.tc.devRef main_v7) = _
  entry_read
  rw [left_c]
  exact lift_c _

/-- The third result is the reference's scales. -/
theorem result_s (c : Dev nD) : Pipeline.afterTail₀ cfgs (dats m) 0 (V0 m) [hostOps1] c main_v9 = rScale (rMax (refY m c)) := by
  show StableHlo.after hostOps1 (left m c) (Proc.tc.devRef main_v9) = _
  entry_read
  rw [left_s]
  exact lift_s _

/-- The idealized kernel ends with the reference's terms of its arguments as its three results. -/
theorem run_results (g : Dev nD → PrngReg) :
    θ_run (defs (F := Ideal)) (onTc (τ := τ) (main (F := Ideal))) ⟨m, fun _ => 0, g⟩ (fun r => ∀ c : Dev nD,
      r.2.mem ((c : Thread nD τ).loc main_v6) = refY m c
      ∧ r.2.mem ((c : Thread nD τ).loc main_v7) = rOut (refY m c) (rScale (rMax (refY m c)))
      ∧ r.2.mem ((c : Thread nD τ).loc main_v9) = rScale (rMax (refY m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h.1 c).2 main_v6 (Pipeline.mem_restRefs_of main_v6 (by decide) (by decide))).trans (result_y m c),
     ((h.1 c).2 main_v7 (Pipeline.mem_restRefs_of main_v7 (by decide) (by decide))).trans (result_c m c),
     ((h.1 c).2 main_v9 (Pipeline.mem_restRefs_of main_v9 (by decide) (by decide))).trans (result_s m c),
     ((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c),
     ((h.1 c).2 main_arg2 (Pipeline.mem_restRefs_of main_arg2 (by decide) (by decide))).trans (W_main_arg2 m (dats m) c),
     ((h.1 c).2 main_arg3 (Pipeline.mem_restRefs_of main_arg3 (by decide) (by decide))).trans (W_main_arg3 m (dats m) c),
     ((h.1 c).2 main_arg4 (Pipeline.mem_restRefs_of main_arg4 (by decide) (by decide))).trans (W_main_arg4 m (dats m) c)⟩)
    (run_main m g)

end Cert.KernelIdeal.Hand
-- ==== Proof.lean ====
/-
  The proof of `Cert.Claim`: the kernel's two frames, the reference's frame, the idealization, and the equality of
  the idealized kernel's three results with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.KernelIdeal.Results
public import proofs.«01_k».proof.Proof.ReferenceIdeal.Terms
public import Idealize.ShloMosaic.Adequacy
public import Idealize.ShloMosaic.Init

@[expose] public section

noncomputable section

namespace Cert.Proof

open Idealize.ShloMosaic Idealize.SL.Sem

/-- The reference ends, its arguments unchanged; it declares no semaphore. -/
theorem frame_r : Cert.quiescent_ReferenceIdeal (hReferenceIdeal := Cert.ReferenceIdeal.Gen.facts) := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- From memories that agree on the arguments, the reference's product is the same term on both sides. -/
theorem product_eq {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.yOf m' c = Cert.KernelIdeal.Hand.refY m c := by
  unfold Cert.ReferenceIdeal.Hand.yOf Cert.KernelIdeal.Hand.refY
  rw [h0, h1, h2, h3, h4]

/-- On exact values the kernel's product, codes and scales are the reference's. -/
theorem equal : Cert.algebraic_KernelIdeal_ReferenceIdeal (hKernelIdeal := Cert.KernelIdeal.Gen.facts)
    (hReferenceIdeal := Cert.ReferenceIdeal.Gen.facts) := by
  intro m g m' g' _ hagree
  have hy : ∀ c, Cert.ReferenceIdeal.Hand.yOf m' c = Cert.KernelIdeal.Hand.refY m c := fun c =>
    product_eq c (hagree c).1 (hagree c).2.1 (hagree c).2.2.1 (hagree c).2.2.2.1 (hagree c).2.2.2.2
  refine ⟨_, _, _, Cert.KernelIdeal.Hand.run_results m g, ?_⟩
  refine (θ_run Cert.ReferenceIdeal.defs _ _).mono (fun r h c => ⟨?_, ?_, ?_, (h c).2.2.2⟩)
    (Cert.ReferenceIdeal.Value.run (F := Ideal) m' g')
  · exact (h c).1.trans ((Cert.ReferenceIdeal.Hand.res0 m' c).trans (hy c))
  · exact (h c).2.1.trans ((Cert.ReferenceIdeal.Hand.res1 m' c).trans (by rw [hy c]))
  · exact (h c).2.2.1.trans ((Cert.ReferenceIdeal.Hand.res2 m' c).trans (by rw [hy c]))

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ, frame_r, trivial, equal⟩

end Cert.Proof

end
